-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_block_diagonal [hPre_block_diagonal : Cert.Pre_block_diagonal.Facts] (m : (ℓ : Loc Cert.KernelIdeal.nD Cert.KernelIdeal.τ Cert.KernelIdeal.sig) → Buf (Elt Ideal) ℓ) : Prop :=
  ∀ c : Dev Cert.KernelIdeal.nD,
    (Cert.Pre_block_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_block_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_block_diagonal [hPre_block_diagonal : Cert.Pre_block_diagonal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_block_diagonal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_block_diagonal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_block_diagonal [hKernelIdeal : Cert.KernelIdeal.Facts] [hPre_block_diagonal : Cert.Pre_block_diagonal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_block_diagonal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_block_diagonal [hReferenceIdeal : Cert.ReferenceIdeal.Facts] [hPre_block_diagonal : Cert.Pre_block_diagonal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_block_diagonal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_block_diagonal [hKernelIdeal : Cert.KernelIdeal.Facts] [hReferenceIdeal : Cert.ReferenceIdeal.Facts] [hPre_block_diagonal : Cert.Pre_block_diagonal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_block_diagonal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_block_diagonal : Cert.Pre_block_diagonal.Facts),
    quiescent_Kernel (hKernel := hKernel)
    ∧ quiescent_KernelIdeal (hKernelIdeal := hKernelIdeal)
    ∧ quiescent_KernelIdeal_pre_block_diagonal (hKernelIdeal := hKernelIdeal) (hPre_block_diagonal := hPre_block_diagonal)
    ∧ quiescent_ReferenceIdeal (hReferenceIdeal := hReferenceIdeal)
    ∧ quiescent_ReferenceIdeal_pre_block_diagonal (hReferenceIdeal := hReferenceIdeal) (hPre_block_diagonal := hPre_block_diagonal)
    ∧ preserves_Kernel_KernelIdeal
    ∧ algebraic_KernelIdeal_ReferenceIdeal_pre_block_diagonal (hKernelIdeal := hKernelIdeal) (hReferenceIdeal := hReferenceIdeal) (hPre_block_diagonal := hPre_block_diagonal)
-- ==== Pre_block_diagonal.lean ====
abbrev S16x1024 : Shape := ⟨2, ![16, 1024]⟩
abbrev S16x2048 : Shape := ⟨2, ![16, 2048]⟩
abbrev S16x128x64 : Shape := ⟨3, ![16, 128, 64]⟩
abbrev S2x1024x64 : Shape := ⟨3, ![2, 1024, 64]⟩
abbrev S2x1024x512 : Shape := ⟨3, ![2, 1024, 512]⟩
abbrev S64x128 : Shape := ⟨2, ![64, 128]⟩
abbrev S128 : Shape := ⟨1, ![128]⟩
abbrev S6144x8192 : Shape := ⟨2, ![6144, 8192]⟩
abbrev S6144x2048 : Shape := ⟨2, ![6144, 2048]⟩
abbrev S6144 : Shape := ⟨1, ![6144]⟩
abbrev S_ : Shape := ⟨0, ![]⟩

class Facts : Prop where
  bcast_S_S6144x8192 : S_.BroadcastsInDim S6144x8192 (![] : Fin 0 → Fin S6144x8192.rank)
  bcast_S_S6144x2048 : S_.BroadcastsInDim S6144x2048 (![] : Fin 0 → Fin S6144x2048.rank)

variable [Facts]

def fn_part1 {F : FTy → Type} [FloatOps F] (main_arg13 : FVec F S6144x2048 .f32) (main_v11 : IVec S6144x8192 1) (main_v16 : IVec S6144x2048 32) (main_v17 : IVec S6144x2048 32) : IVec S6144x8192 1 × IVec S6144x2048 1 :=
  let main_c_4 : IVec S_ 32 := constantI S_ 32 128#32
  let main_v18 : IVec S6144x2048 32 := broadcastInDim S6144x2048 ![] bcast_S_S6144x2048 main_c_4
  let main_v19 : IVec S6144x2048 32 := Host.divsi main_v17 main_v18
  let main_v20 : IVec S6144x2048 1 := cmpi .eq main_v16 main_v19
  let main_cst_5 : FVec F S_ .f32 := constant S_ .f32 0x00000000#32
  let main_v21 : FVec F S6144x2048 .f32 := broadcastInDim S6144x2048 ![] bcast_S_S6144x2048 main_cst_5
  let main_v22 : IVec S6144x2048 1 := cmpf .oeq main_arg13 main_v21
  let main_v23 : IVec S6144x2048 1 := ori main_v20 main_v22
  (main_v11, main_v23)

def fn {F : FTy → Type} [FloatOps F] (main_arg0 : FVec F S16x1024 .f32) (main_arg1 : FVec F S16x2048 .f32) (main_arg2 : FVec F S16x128x64 .f32) (main_arg3 : FVec F S2x1024x64 .f32) (main_arg4 : FVec F S2x1024x512 .f32) (main_arg5 : FVec F S16x128x64 .f32) (main_arg6 : FVec F S16x128x64 .f32) (main_arg7 : FVec F S16x128x64 .f32) (main_arg8 : FVec F S64x128 .f32) (main_arg9 : FVec F S128 .f32) (main_arg10 : FVec F S64x128 .f32) (main_arg11 : FVec F S128 .f32) (main_arg12 : FVec F S6144x8192 .f32) (main_arg13 : FVec F S6144x2048 .f32) (main_arg14 : FVec F S6144 .f32) (main_arg15 : FVec F S6144 .f32) (main_arg16 : IVec S_ 32) : IVec S6144x8192 1 × IVec S6144x2048 1 :=
  let main_v0 : IVec S6144x8192 32 := iotaInDim S6144x8192 32 0
  let main_c : IVec S_ 32 := constantI S_ 32 2048#32
  let main_v1 : IVec S6144x8192 32 := broadcastInDim S6144x8192 ![] bcast_S_S6144x8192 main_c
  let main_v2 : IVec S6144x8192 32 := Host.remsi main_v0 main_v1
  let main_c_0 : IVec S_ 32 := constantI S_ 32 128#32
  let main_v3 : IVec S6144x8192 32 := broadcastInDim S6144x8192 ![] bcast_S_S6144x8192 main_c_0
  let main_v4 : IVec S6144x8192 32 := Host.divsi main_v2 main_v3
  let main_v5 : IVec S6144x8192 32 := iotaInDim S6144x8192 32 1
  let main_c_1 : IVec S_ 32 := constantI S_ 32 512#32
  let main_v6 : IVec S6144x8192 32 := broadcastInDim S6144x8192 ![] bcast_S_S6144x8192 main_c_1
  let main_v7 : IVec S6144x8192 32 := Host.divsi main_v5 main_v6
  let main_v8 : IVec S6144x8192 1 := cmpi .eq main_v4 main_v7
  let main_cst : FVec F S_ .f32 := constant S_ .f32 0x00000000#32
  let main_v9 : FVec F S6144x8192 .f32 := broadcastInDim S6144x8192 ![] bcast_S_S6144x8192 main_cst
  let main_v10 : IVec S6144x8192 1 := cmpf .oeq main_arg12 main_v9
  let main_v11 : IVec S6144x8192 1 := ori main_v8 main_v10
  let main_v12 : IVec S6144x2048 32 := iotaInDim S6144x2048 32 0
  let main_c_2 : IVec S_ 32 := constantI S_ 32 2048#32
  let main_v13 : IVec S6144x2048 32 := broadcastInDim S6144x2048 ![] bcast_S_S6144x2048 main_c_2
  let main_v14 : IVec S6144x2048 32 := Host.remsi main_v12 main_v13
  let main_c_3 : IVec S_ 32 := constantI S_ 32 128#32
  let main_v15 : IVec S6144x2048 32 := broadcastInDim S6144x2048 ![] bcast_S_S6144x2048 main_c_3
  let main_v16 : IVec S6144x2048 32 := Host.divsi main_v14 main_v15
  let main_v17 : IVec S6144x2048 32 := iotaInDim S6144x2048 32 1
  fn_part1 (F := F) main_arg13 main_v11 main_v16 main_v17
-- ==== Kernel.lean ====
abbrev S16x1024 : Shape := ⟨2, ![16, 1024]⟩
abbrev S16x2048 : Shape := ⟨2, ![16, 2048]⟩
abbrev S16x128x64 : Shape := ⟨3, ![16, 128, 64]⟩
abbrev S2x1024x64 : Shape := ⟨3, ![2, 1024, 64]⟩
abbrev S2x1024x512 : Shape := ⟨3, ![2, 1024, 512]⟩
abbrev S64x128 : Shape := ⟨2, ![64, 128]⟩
abbrev S128 : Shape := ⟨1, ![128]⟩
abbrev S6144x8192 : Shape := ⟨2, ![6144, 8192]⟩
abbrev S6144x2048 : Shape := ⟨2, ![6144, 2048]⟩
abbrev S6144 : Shape := ⟨1, ![6144]⟩
abbrev S_ : Shape := ⟨0, ![]⟩
abbrev S3x2048x8192 : Shape := ⟨3, ![3, 2048, 8192]⟩
abbrev S3x2048x2048 : Shape := ⟨3, ![3, 2048, 2048]⟩
abbrev S16x64x128 : Shape := ⟨3, ![16, 64, 128]⟩
abbrev S2x64x1024 : Shape := ⟨3, ![2, 64, 1024]⟩
abbrev S48x128 : Shape := ⟨2, ![48, 128]⟩
abbrev S1x64x1024 : Shape := ⟨3, ![1, 64, 1024]⟩
abbrev S1x1024x512 : Shape := ⟨3, ![1, 1024, 512]⟩
abbrev S16x3x128x512 : Shape := ⟨4, ![16, 3, 128, 512]⟩
abbrev S16x3x128x128 : Shape := ⟨4, ![16, 3, 128, 128]⟩
abbrev S16 : Shape := ⟨1, ![16]⟩
abbrev S3 : Shape := ⟨1, ![3]⟩
abbrev S1 : Shape := ⟨1, ![1]⟩
abbrev S1x3x128x512 : Shape := ⟨4, ![1, 3, 128, 512]⟩
abbrev S3x128x512 : Shape := ⟨3, ![3, 128, 512]⟩
abbrev S1x3x128x128 : Shape := ⟨4, ![1, 3, 128, 128]⟩
abbrev S3x128x128 : Shape := ⟨3, ![3, 128, 128]⟩
abbrev S64x1024 : Shape := ⟨2, ![64, 1024]⟩
abbrev S16x64 : Shape := ⟨2, ![16, 64]⟩
abbrev S1024x512 : Shape := ⟨2, ![1024, 512]⟩
abbrev S16x512 : Shape := ⟨2, ![16, 512]⟩
abbrev S16x16 : Shape := ⟨2, ![16, 16]⟩
abbrev S16x128 : Shape := ⟨2, ![16, 128]⟩
abbrev S1x64x128 : Shape := ⟨3, ![1, 64, 128]⟩
abbrev S16x1 : Shape := ⟨2, ![16, 1]⟩
abbrev S384x512 : Shape := ⟨2, ![384, 512]⟩
abbrev S384x128 : Shape := ⟨2, ![384, 128]⟩
abbrev S16x384 : Shape := ⟨2, ![16, 384]⟩
abbrev S1x128 : Shape := ⟨2, ![1, 128]⟩
abbrev S16x1x64 : Shape := ⟨3, ![16, 1, 64]⟩
abbrev S16x16x64 : Shape := ⟨3, ![16, 16, 64]⟩
abbrev S16x16x16 : Shape := ⟨3, ![16, 16, 16]⟩
abbrev S16x16x1 : Shape := ⟨3, ![16, 16, 1]⟩

abbrev nBuf : Space → Nat
  | .hbm => 28
  | .vmem => 18
  | .smem => 0
  | _ => 0

abbrev bufTy : (tb : Table) → Fin (tcTables nBuf tb) → BufTy
  | .hbm, ⟨0, _⟩ => ⟨S16x1024, .f32⟩
  | .hbm, ⟨1, _⟩ => ⟨S16x2048, .f32⟩
  | .hbm, ⟨2, _⟩ => ⟨S16x128x64, .f32⟩
  | .hbm, ⟨3, _⟩ => ⟨S2x1024x64, .f32⟩
  | .hbm, ⟨4, _⟩ => ⟨S2x1024x512, .f32⟩
  | .hbm, ⟨5, _⟩ => ⟨S16x128x64, .f32⟩
  | .hbm, ⟨6, _⟩ => ⟨S16x128x64, .f32⟩
  | .hbm, ⟨7, _⟩ => ⟨S16x128x64, .f32⟩
  | .hbm, ⟨8, _⟩ => ⟨S64x128, .f32⟩
  | .hbm, ⟨9, _⟩ => ⟨S128, .f32⟩
  | .hbm, ⟨10, _⟩ => ⟨S64x128, .f32⟩
  | .hbm, ⟨11, _⟩ => ⟨S128, .f32⟩
  | .hbm, ⟨12, _⟩ => ⟨S6144x8192, .f32⟩
  | .hbm, ⟨13, _⟩ => ⟨S6144x2048, .f32⟩
  | .hbm, ⟨14, _⟩ => ⟨S6144, .f32⟩
  | .hbm, ⟨15, _⟩ => ⟨S6144, .f32⟩
  | .hbm, ⟨16, _⟩ => ⟨S_, .i32⟩
  | .hbm, ⟨17, _⟩ => ⟨S3x2048x8192, .f32⟩
  | .hbm, ⟨18, _⟩ => ⟨S3x2048x2048, .f32⟩
  | .hbm, ⟨19, _⟩ => ⟨S16x64x128, .f32⟩
  | .hbm, ⟨20, _⟩ => ⟨S2x64x1024, .f32⟩
  | .hbm, ⟨21, _⟩ => ⟨S16x64x128, .f32⟩
  | .hbm, ⟨22, _⟩ => ⟨S16x64x128, .f32⟩
  | .hbm, ⟨23, _⟩ => ⟨S16x64x128, .f32⟩
  | .hbm, ⟨24, _⟩ => ⟨S48x128, .f32⟩
  | .hbm, ⟨25, _⟩ => ⟨S48x128, .f32⟩
  | .hbm, ⟨26, _⟩ => ⟨S16x2048, .f32⟩
  | .hbm, ⟨27, _⟩ => ⟨S16x2048, .f32⟩
  | .local _ .vmem, ⟨0, _⟩ => ⟨S16x1024, .f32⟩
  | .local _ .vmem, ⟨1, _⟩ => ⟨S16x2048, .f32⟩
  | .local _ .vmem, ⟨2, _⟩ => ⟨S16x64x128, .f32⟩
  | .local _ .vmem, ⟨3, _⟩ => ⟨S1x64x1024, .f32⟩
  | .local _ .vmem, ⟨4, _⟩ => ⟨S1x1024x512, .f32⟩
  | .local _ .vmem, ⟨5, _⟩ => ⟨S64x128, .f32⟩
  | .local _ .vmem, ⟨6, _⟩ => ⟨S128, .f32⟩
  | .local _ .vmem, ⟨7, _⟩ => ⟨S64x128, .f32⟩
  | .local _ .vmem, ⟨8, _⟩ => ⟨S128, .f32⟩
  | .local _ .vmem, ⟨9, _⟩ => ⟨S48x128, .f32⟩
  | .local _ .vmem, ⟨10, _⟩ => ⟨S48x128, .f32⟩
  | .local _ .vmem, ⟨11, _⟩ => ⟨S16x2048, .f32⟩
  | .local _ .vmem, ⟨12, _⟩ => ⟨S16x2048, .f32⟩
  | .local _ .vmem, ⟨13, _⟩ => ⟨S16x3x128x512, .f32⟩
  | .local _ .vmem, ⟨14, _⟩ => ⟨S16x3x128x128, .f32⟩
  | .local _ .vmem, ⟨15, _⟩ => ⟨S16x64x128, .f32⟩
  | .local _ .vmem, ⟨16, _⟩ => ⟨S16x64x128, .f32⟩
  | .local _ .vmem, ⟨17, _⟩ => ⟨S16x64x128, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S48x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S48x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S16x1024 : Shape := ⟨2, ![16, 1024]⟩
abbrev S16x2048 : Shape := ⟨2, ![16, 2048]⟩
abbrev S16x128x64 : Shape := ⟨3, ![16, 128, 64]⟩
abbrev S2x1024x64 : Shape := ⟨3, ![2, 1024, 64]⟩
abbrev S2x1024x512 : Shape := ⟨3, ![2, 1024, 512]⟩
abbrev S64x128 : Shape := ⟨2, ![64, 128]⟩
abbrev S128 : Shape := ⟨1, ![128]⟩
abbrev S6144x8192 : Shape := ⟨2, ![6144, 8192]⟩
abbrev S6144x2048 : Shape := ⟨2, ![6144, 2048]⟩
abbrev S6144 : Shape := ⟨1, ![6144]⟩
abbrev S_ : Shape := ⟨0, ![]⟩
abbrev S16x1x1024 : Shape := ⟨3, ![16, 1, 1024]⟩
abbrev S1x16x1x1x1x1024 : Shape := ⟨6, ![1, 16, 1, 1, 1, 1024]⟩
abbrev S16x2x1024 : Shape := ⟨3, ![16, 2, 1024]⟩
abbrev S16x16x128 : Shape := ⟨3, ![16, 16, 128]⟩
abbrev S16x64x16 : Shape := ⟨3, ![16, 64, 16]⟩
abbrev S16x16x64 : Shape := ⟨3, ![16, 16, 64]⟩
abbrev S2x64x16 : Shape := ⟨3, ![2, 64, 16]⟩
abbrev S16x2x64 : Shape := ⟨3, ![16, 2, 64]⟩
abbrev S2x512x16 : Shape := ⟨3, ![2, 512, 16]⟩
abbrev S16x2x512 : Shape := ⟨3, ![16, 2, 512]⟩
abbrev S16x16x2 : Shape := ⟨3, ![16, 16, 2]⟩
abbrev S16x16 : Shape := ⟨2, ![16, 16]⟩
abbrev S16x16x1 : Shape := ⟨3, ![16, 16, 1]⟩
abbrev S16x16x512 : Shape := ⟨3, ![16, 16, 512]⟩
abbrev S16x8192 : Shape := ⟨2, ![16, 8192]⟩
abbrev S16x8 : Shape := ⟨2, ![16, 8]⟩
abbrev S16 : Shape := ⟨1, ![16]⟩
abbrev S16x1 : Shape := ⟨2, ![16, 1]⟩
abbrev S16x8x1 : Shape := ⟨3, ![16, 8, 1]⟩
abbrev S16x8x2 : Shape := ⟨3, ![16, 8, 2]⟩
abbrev S16x16x1x128 : Shape := ⟨4, ![16, 16, 1, 128]⟩
abbrev S8192x6144 : Shape := ⟨2, ![8192, 6144]⟩
abbrev S16x6144 : Shape := ⟨2, ![16, 6144]⟩
abbrev S1x6144 : Shape := ⟨2, ![1, 6144]⟩
abbrev S2048x6144 : Shape := ⟨2, ![2048, 6144]⟩
abbrev S16x16x4x16 : Shape := ⟨4, ![16, 16, 4, 16]⟩
abbrev S16x4x16x16 : Shape := ⟨4, ![16, 4, 16, 16]⟩
abbrev S16x4x16 : Shape := ⟨3, ![16, 4, 16]⟩
abbrev S16x4x16x1 : Shape := ⟨4, ![16, 4, 16, 1]⟩
abbrev S1x1x128 : Shape := ⟨3, ![1, 1, 128]⟩

abbrev nBuf : Space → Nat
  | .hbm => 191
  | .vmem => 0
  | .smem => 0
  | _ => 0

abbrev hbmTy0_0 (i : Nat) : BufTy := match i % 128 with
  | 0 => ⟨S16x1024, .f32⟩
  | 1 => ⟨S16x2048, .f32⟩
  | 2 => ⟨S16x128x64, .f32⟩
  | 3 => ⟨S2x1024x64, .f32⟩
  | 4 => ⟨S2x1024x512, .f32⟩
  | 5 => ⟨S16x128x64, .f32⟩
  | 6 => ⟨S16x128x64, .f32⟩
  | 7 => ⟨S16x128x64, .f32⟩
  | 8 => ⟨S64x128, .f32⟩
  | 9 => ⟨S128, .f32⟩
  | 10 => ⟨S64x128, .f32⟩
  | 11 => ⟨S128, .f32⟩
  | 12 => ⟨S6144x8192, .f32⟩
  | 13 => ⟨S6144x2048, .f32⟩
  | 14 => ⟨S6144, .f32⟩
  | 15 => ⟨S6144, .f32⟩
  | 16 => ⟨S_, .i32⟩
  | 17 => ⟨S16x1x1024, .f32⟩
  | 18 => ⟨S1x16x1x1x1x1024, .f32⟩
  | 19 => ⟨S1x16x1x1x1x1024, .f32⟩
  | 20 => ⟨S16x1x1024, .f32⟩
  | 21 => ⟨S_, .f32⟩
  | 22 => ⟨S16x1x1024, .f32⟩
  | 23 => ⟨S16x2x1024, .f32⟩
  | 24 => ⟨S16x16x128, .f32⟩
  | 25 => ⟨S16x64x16, .f32⟩
  | 26 => ⟨S16x16x64, .f32⟩
  | 27 => ⟨S2x64x16, .f32⟩
  | 28 => ⟨S16x2x64, .f32⟩
  | 29 => ⟨S2x512x16, .f32⟩
  | 30 => ⟨S16x2x512, .f32⟩
  | 31 => ⟨S16x16x2, .f32⟩
  | 32 => ⟨S_, .f32⟩
  | 33 => ⟨S16x16x2, .f32⟩
  | 34 => ⟨S16x16x2, .f32⟩
  | 35 => ⟨S_, .f32⟩
  | 36 => ⟨S16x16, .f32⟩
  | 37 => ⟨S_, .f32⟩
  | 38 => ⟨S16x16, .f32⟩
  | 39 => ⟨S16x16, .f32⟩
  | 40 => ⟨S16x16x1, .f32⟩
  | 41 => ⟨S16x16x2, .f32⟩
  | 42 => ⟨S16x16x2, .f32⟩
  | 43 => ⟨S16x16x2, .f32⟩
  | 44 => ⟨S_, .f32⟩
  | 45 => ⟨S16x16, .f32⟩
  | 46 => ⟨S16x16x1, .f32⟩
  | 47 => ⟨S16x16x2, .f32⟩
  | 48 => ⟨S16x16x2, .f32⟩
  | 49 => ⟨S16x16x512, .f32⟩
  | 50 => ⟨S16x8192, .f32⟩
  | 51 => ⟨S16x16x1, .f32⟩
  | 52 => ⟨S16x16, .f32⟩
  | 53 => ⟨S16x8, .f32⟩
  | 54 => ⟨S16x8, .i32⟩
  | 55 => ⟨S_, .f32⟩
  | 56 => ⟨S16x16, .f32⟩
  | 57 => ⟨S16, .i32⟩
  | 58 => ⟨S16x1, .i32⟩
  | 59 => ⟨S_, .i32⟩
  | 60 => ⟨S16x1, .i32⟩
  | 61 => ⟨S16x1, .i1⟩
  | 62 => ⟨S_, .i32⟩
  | 63 => ⟨S16x1, .i32⟩
  | 64 => ⟨S16x1, .i32⟩
  | 65 => ⟨S16x1, .i32⟩
  | 66 => ⟨S_, .i32⟩
  | 67 => ⟨S16x8, .i32⟩
  | 68 => ⟨S16x8, .i1⟩
  | 69 => ⟨S_, .i32⟩
  | 70 => ⟨S16x8, .i32⟩
  | 71 => ⟨S16x8, .i32⟩
  | 72 => ⟨S16x8, .i32⟩
  | 73 => ⟨S16x8, .i32⟩
  | 74 => ⟨S16x8x1, .i32⟩
  | 75 => ⟨S16x8x1, .i32⟩
  | 76 => ⟨S16x8x2, .i32⟩
  | 77 => ⟨S_, .f32⟩
  | 78 => ⟨S16x8, .f32⟩
  | 79 => ⟨S16x16, .f32⟩
  | 80 => ⟨S16x16x1, .f32⟩
  | 81 => ⟨S16x16x1x128, .f32⟩
  | 82 => ⟨S16x16x128, .f32⟩
  | 83 => ⟨S16x2048, .f32⟩
  | 84 => ⟨S_, .f32⟩
  | 85 => ⟨S16x2048, .f32⟩
  | 86 => ⟨S16x2048, .f32⟩
  | 87 => ⟨S8192x6144, .f32⟩
  | 88 => ⟨S16x6144, .f32⟩
  | 89 => ⟨S1x6144, .f32⟩
  | 90 => ⟨S16x6144, .f32⟩
  | 91 => ⟨S16x6144, .f32⟩
  | 92 => ⟨S2048x6144, .f32⟩
  | 93 => ⟨S16x6144, .f32⟩
  | 94 => ⟨S1x6144, .f32⟩
  | 95 => ⟨S16x6144, .f32⟩
  | 96 => ⟨S16x6144, .f32⟩
  | 97 => ⟨S16x2048, .f32⟩
  | 98 => ⟨S16x2048, .f32⟩
  | 99 => ⟨S16x2048, .f32⟩
  | 100 => ⟨S16x2048, .f32⟩
  | 101 => ⟨S16x2048, .f32⟩
  | 102 => ⟨S16x2048, .f32⟩
  | 103 => ⟨S16x2048, .f32⟩
  | 104 => ⟨S16x2048, .f32⟩
  | 105 => ⟨S16x2048, .f32⟩
  | 106 => ⟨S_, .f32⟩
  | 107 => ⟨S16x2048, .f32⟩
  | 108 => ⟨S16x2048, .f32⟩
  | 109 => ⟨S_, .f32⟩
  | 110 => ⟨S16x2048, .f32⟩
  | 111 => ⟨S16x2048, .f32⟩
  | 112 => ⟨S16x2048, .f32⟩
  | 113 => ⟨S16x2048, .f32⟩
  | 114 => ⟨S16x2048, .f32⟩
  | 115 => ⟨S_, .f32⟩
  | 116 => ⟨S16x2048, .f32⟩
  | 117 => ⟨S16x2048, .f32⟩
  | 118 => ⟨S_, .f32⟩
  | 119 => ⟨S16x2048, .f32⟩
  | 120 => ⟨S16x2048, .f32⟩
  | 121 => ⟨S16x2048, .f32⟩
  | 122 => ⟨S16x2048, .f32⟩
  | 123 => ⟨S16x2048, .f32⟩
  | 124 => ⟨S_, .f32⟩
  | 125 => ⟨S16x2048, .f32⟩
  | 126 => ⟨S16x2048, .f32⟩
  | 127 => ⟨S16x2048, .f32⟩
  | _ => ⟨S16x1024, .f32⟩

abbrev hbmTy0_1 (i : Nat) : BufTy := match i % 128 with
  | 0 => ⟨S16x2048, .f32⟩
  | 1 => ⟨S16x2048, .f32⟩
  | 2 => ⟨S16x16x128, .f32⟩
  | 3 => ⟨S16x64x16, .f32⟩
  | 4 => ⟨S16x16x64, .f32⟩
  | 5 => ⟨S16x16x4x16, .f32⟩
  | 6 => ⟨S16x4x16x16, .f32⟩
  | 7 => ⟨S16x64x16, .f32⟩
  | 8 => ⟨S16x16x64, .f32⟩
  | 9 => ⟨S16x16x4x16, .f32⟩
  | 10 => ⟨S16x4x16x16, .f32⟩
  | 11 => ⟨S16x64x16, .f32⟩
  | 12 => ⟨S16x16x64, .f32⟩
  | 13 => ⟨S16x16x4x16, .f32⟩
  | 14 => ⟨S16x4x16x16, .f32⟩
  | 15 => ⟨S16x4x16x16, .f32⟩
  | 16 => ⟨S_, .f32⟩
  | 17 => ⟨S16x4x16x16, .f32⟩
  | 18 => ⟨S16x4x16x16, .f32⟩
  | 19 => ⟨S_, .f32⟩
  | 20 => ⟨S16x4x16, .f32⟩
  | 21 => ⟨S_, .f32⟩
  | 22 => ⟨S16x4x16, .f32⟩
  | 23 => ⟨S16x4x16, .f32⟩
  | 24 => ⟨S16x4x16x1, .f32⟩
  | 25 => ⟨S16x4x16x16, .f32⟩
  | 26 => ⟨S16x4x16x16, .f32⟩
  | 27 => ⟨S16x4x16x16, .f32⟩
  | 28 => ⟨S_, .f32⟩
  | 29 => ⟨S16x4x16, .f32⟩
  | 30 => ⟨S16x4x16x1, .f32⟩
  | 31 => ⟨S16x4x16x16, .f32⟩
  | 32 => ⟨S16x4x16x16, .f32⟩
  | 33 => ⟨S16x4x16x16, .f32⟩
  | 34 => ⟨S16x16x4x16, .f32⟩
  | 35 => ⟨S16x16x64, .f32⟩
  | 36 => ⟨S16x16x128, .f32⟩
  | 37 => ⟨S1x1x128, .f32⟩
  | 38 => ⟨S16x16x128, .f32⟩
  | 39 => ⟨S16x16x128, .f32⟩
  | 40 => ⟨S16x16x128, .f32⟩
  | 41 => ⟨S1x1x128, .f32⟩
  | 42 => ⟨S16x16x128, .f32⟩
  | 43 => ⟨S16x16x128, .f32⟩
  | 44 => ⟨S16x16x128, .f32⟩
  | 45 => ⟨S16x16x128, .f32⟩
  | 46 => ⟨S_, .f32⟩
  | 47 => ⟨S16x16x128, .f32⟩
  | 48 => ⟨S16x16x128, .f32⟩
  | 49 => ⟨S_, .f32⟩
  | 50 => ⟨S16x16x128, .f32⟩
  | 51 => ⟨S16x16x128, .f32⟩
  | 52 => ⟨S16x16x128, .f32⟩
  | 53 => ⟨S16x16x128, .f32⟩
  | 54 => ⟨S16x16x128, .f32⟩
  | 55 => ⟨S16x16x128, .f32⟩
  | 56 => ⟨S16x2048, .f32⟩
  | 57 => ⟨S16x2048, .f32⟩
  | 58 => ⟨S_, .f32⟩
  | 59 => ⟨S16x2048, .f32⟩
  | 60 => ⟨S16x2048, .f32⟩
  | 61 => ⟨S16x2048, .f32⟩
  | 62 => ⟨S16x2048, .f32⟩
  | _ => ⟨S16x1024, .f32⟩

abbrev hbmTy (i : Nat) : BufTy := match i / 128 with
  | 0 => hbmTy0_0 i
  | 1 => hbmTy0_1 i
  | _ => ⟨S16x1024, .f32⟩

abbrev bufTy : (tb : Table) → Fin (tcTables nBuf tb) → BufTy
  | .hbm, ⟨i, _⟩ => hbmTy i
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_values : Ref sig .tc := ⟨.hbm, 53, rfl⟩
abbrev main_indices : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c : Ref sig .tc := ⟨.hbm, 59, rfl⟩
abbrev main_v34 : Ref sig .tc := ⟨.hbm, 60, rfl⟩
abbrev main_v35 : Ref sig .tc := ⟨.hbm, 61, rfl⟩
abbrev main_c_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_6 : Ref sig .tc := ⟨.hbm, 66, rfl⟩
abbrev main_v39 : Ref sig .tc := ⟨.hbm, 67, rfl⟩
abbrev main_v40 : Ref sig .tc := ⟨.hbm, 68, rfl⟩
abbrev main_c_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_10 : Ref sig .tc := ⟨.hbm, 106, rfl⟩
abbrev main_v75 : Ref sig .tc := ⟨.hbm, 107, rfl⟩
abbrev main_v76 : Ref sig .tc := ⟨.hbm, 108, rfl⟩
abbrev main_cst_11 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_12 : Ref sig .tc := ⟨.hbm, 115, rfl⟩
abbrev main_v82 : Ref sig .tc := ⟨.hbm, 116, rfl⟩
abbrev main_v83 : Ref sig .tc := ⟨.hbm, 117, rfl⟩
abbrev main_cst_13 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_14 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_15 : Ref sig .tc := ⟨.hbm, 144, rfl⟩
abbrev main_v108 : Ref sig .tc := ⟨.hbm, 145, rfl⟩
abbrev main_v109 : Ref sig .tc := ⟨.hbm, 146, rfl⟩
abbrev main_cst_16 : Ref sig .tc := ⟨.hbm, 147, rfl⟩
abbrev main_v110 : Ref sig .tc := ⟨.hbm, 148, rfl⟩
abbrev main_cst_17 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_18 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_cst_19 : Ref sig .tc := ⟨.hbm, 174, rfl⟩
abbrev main_v134 : Ref sig .tc := ⟨.hbm, 175, rfl⟩
abbrev main_v135 : Ref sig .tc := ⟨.hbm, 176, rfl⟩
abbrev main_cst_20 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_21 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩

abbrev nD : Nat := 1
abbrev τ : Topo := Topo.v7x

variable {F : FTy → Type} [FloatOps F]
-- ==== Proof.Slots.lean ====
module

public import proofs.«01_k».proof.Proof.Gen.KernelIdeal.Frame

@[expose] public section

set_option maxRecDepth 16384

/-! # The two weight buffers held slot by slot

The body starts sixteen transfers into each of the two weight buffers, one per slot, and reads a slot once its transfer
has landed. Here a weight buffer held whole is split into its sixteen slots, and the slots are joined back at the end. -/

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]

local notation "𝕄" => MT nD τ sig Unit (Elt F) ℕ (Pipeline.UD sig nD τ) ℕ

/-- A slot of the first buffer lies inside it. -/
theorem inbI (j : ℕ) (hj : j < 16) (a : Fin 4) : (![j, 0, 0, 0] : Fin 4 → ℕ) a + S1x3x128x512.size a ≤ S16x3x128x512.size a := by
  fin_cases a
  · show j + 1 ≤ 16; omega
  all_goals exact Nat.le_of_eq (Nat.zero_add _)

/-- A slot of the second buffer lies inside it. -/
theorem inbH (j : ℕ) (hj : j < 16) (a : Fin 4) : (![j, 0, 0, 0] : Fin 4 → ℕ) a + S1x3x128x128.size a ≤ S16x3x128x128.size a := by
  fin_cases a
  · show j + 1 ≤ 16; omega
  all_goals exact Nat.le_of_eq (Nat.zero_add _)

/-- Slot `j` of the first weight buffer, without its leading axis. -/
abbrev slotI (M : Memref sig .tc .vmem S16x3x128x512 .f32) (j : ℕ) (hj : j < 16 := by decide) : Memref sig .tc .vmem S3x128x512 .f32 :=
  (M.slice (Rect.unit (s := S16x3x128x512) ![j, 0, 0, 0] S1x3x128x512.size (inbI j hj)) (fun _ => rfl)).squeeze S3x128x512
    Gen.squeezes_S1x3x128x512_S3x128x512

/-- Slot `j` of the second weight buffer, without its leading axis. -/
abbrev slotH (M : Memref sig .tc .vmem S16x3x128x128 .f32) (j : ℕ) (hj : j < 16 := by decide) : Memref sig .tc .vmem S3x128x128 .f32 :=
  (M.slice (Rect.unit (s := S16x3x128x128) ![j, 0, 0, 0] S1x3x128x128.size (inbH j hj)) (fun _ => rfl)).squeeze S3x128x128
    Gen.squeezes_S1x3x128x128_S3x128x128

omit [FloatOps F] in
/-- Sixteen pieces written out. -/
theorem sep16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- Sets carried along an injection: disjoint pieces that cover the index set stay so, inside the view. -/
theorem view_pieces {s : Shape} {κ : Kind} {sp : Space} {e : EltTy} (v : View sig κ sp s e) (R : Fin 16 → Finset s.Idx)
    (hd : ∀ b b', b ≠ b' → Disjoint (R b) (R b')) (hc : Finset.univ.biUnion R = Finset.univ) :
    (∀ b b', b ≠ b' → Disjoint ((R b).map v.emb) ((R b').map v.emb)) ∧ Finset.univ.biUnion (fun b => (R b).map v.emb) = v.set := by
  refine ⟨fun b b' h => (Finset.disjoint_map _).mpr (hd b b' h), ?_⟩
  have h : (Finset.univ.biUnion R).map v.emb = v.set := by rw [hc]; rfl
  rw [← h]; ext i; simp only [Finset.mem_biUnion, Finset.mem_map, Finset.mem_univ, true_and]
  constructor
  · rintro ⟨b, a, ha, rfl⟩; exact ⟨a, ⟨b, ha⟩, rfl⟩
  · rintro ⟨a, ⟨b, ha⟩, rfl⟩; exact ⟨b, a, ha, rfl⟩

/-- The indices slot `j` of the first buffer covers. -/
theorem slotI_set (M : Memref sig .tc .vmem S16x3x128x512 .f32) (j : ℕ) (hj : j < 16) :
    (slotI M j hj).view.set = (Rect.unit (s := S16x3x128x512) ![j, 0, 0, 0] S1x3x128x512.size (inbI j hj)).set.map M.view.emb :=
  (View.set_reshape _ _).trans (View.set_slice _ _)

/-- The indices slot `j` of the second buffer covers. -/
theorem slotH_set (M : Memref sig .tc .vmem S16x3x128x128 .f32) (j : ℕ) (hj : j < 16) :
    (slotH M j hj).view.set = (Rect.unit (s := S16x3x128x128) ![j, 0, 0, 0] S1x3x128x128.size (inbH j hj)).set.map M.view.emb :=
  (View.set_reshape _ _).trans (View.set_slice _ _)

/-- The sixteen slots are apart from one another and make up the buffer. -/
theorem slotsI (M : Memref sig .tc .vmem S16x3x128x512 .f32) :
    (∀ b b' : Fin 16, b ≠ b' → Disjoint (slotI M b b.isLt).view.set (slotI M b' b'.isLt).view.set)
      ∧ Finset.univ.biUnion (fun b : Fin 16 => (slotI M b b.isLt).view.set) = M.view.set := by
  have h0 : ∀ b : Fin 16, (![(b : ℕ), 0, 0, 0] : Fin 4 → ℕ) 0 = 1 * b.val := fun b => (Nat.one_mul _).symm
  have h1 : ∀ (b : Fin 16) (a : Fin 4), a ≠ 0 → (![(b : ℕ), 0, 0, 0] : Fin 4 → ℕ) a = 0 := fun b a ha => by
    fin_cases a
    · exact absurd rfl ha
    all_goals rfl
  have h2 : ∀ a : Fin 4, a ≠ 0 → S1x3x128x512.size a = S16x3x128x512.size a := by decide
  have hd := Ring.lead_disjoint (s := S16x3x128x512) (NB := 16) (0 : Fin 4) 1 (fun b => ![(b : ℕ), 0, 0, 0]) S1x3x128x512.size
    (fun b => inbI b b.isLt) h0 rfl
  have hc := Ring.lead_cover (s := S16x3x128x512) (NB := 16) (0 : Fin 4) 1 (fun b => ![(b : ℕ), 0, 0, 0]) S1x3x128x512.size
    (fun b => inbI b b.isLt) h0 h1 rfl h2 rfl
  have h := view_pieces M.view _ hd hc
  refine ⟨fun b b' hb => ?_, ?_⟩
  · have e := h.1 b b' hb
    rw [← slotI_set M b b.isLt, ← slotI_set M b' b'.isLt] at e
    exact e
  · exact (congrArg (fun K : Fin 16 → Finset M.view.ty.Idx => Finset.univ.biUnion K) (funext fun b => slotI_set M b b.isLt)).trans h.2

/-- The sixteen slots are apart from one another and make up the buffer. -/
theorem slotsH (M : Memref sig .tc .vmem S16x3x128x128 .f32) :
    (∀ b b' : Fin 16, b ≠ b' → Disjoint (slotH M b b.isLt).view.set (slotH M b' b'.isLt).view.set)
      ∧ Finset.univ.biUnion (fun b : Fin 16 => (slotH M b b.isLt).view.set) = M.view.set := by
  have h0 : ∀ b : Fin 16, (![(b : ℕ), 0, 0, 0] : Fin 4 → ℕ) 0 = 1 * b.val := fun b => (Nat.one_mul _).symm
  have h1 : ∀ (b : Fin 16) (a : Fin 4), a ≠ 0 → (![(b : ℕ), 0, 0, 0] : Fin 4 → ℕ) a = 0 := fun b a ha => by
    fin_cases a
    · exact absurd rfl ha
    all_goals rfl
  have h2 : ∀ a : Fin 4, a ≠ 0 → S1x3x128x128.size a = S16x3x128x128.size a := by decide
  have hd := Ring.lead_disjoint (s := S16x3x128x128) (NB := 16) (0 : Fin 4) 1 (fun b => ![(b : ℕ), 0, 0, 0]) S1x3x128x128.size
    (fun b => inbH b b.isLt) h0 rfl
  have hc := Ring.lead_cover (s := S16x3x128x128) (NB := 16) (0 : Fin 4) 1 (fun b => ![(b : ℕ), 0, 0, 0]) S1x3x128x128.size
    (fun b => inbH b b.isLt) h0 h1 rfl h2 rfl
  have h := view_pieces M.view _ hd hc
  refine ⟨fun b b' hb => ?_, ?_⟩
  · have e := h.1 b b' hb
    rw [← slotH_set M b b.isLt, ← slotH_set M b' b'.isLt] at e
    exact e
  · exact (congrArg (fun K : Fin 16 → Finset M.view.ty.Idx => Finset.univ.biUnion K) (funext fun b => slotH_set M b b.isLt)).trans h.2

/-- Slot `j` held at contents `f`. -/
abbrev heldI (c : Dev nD) (M : Memref sig .tc .vmem S16x3x128x512 .f32) (j : ℕ) (f : Buf (Elt F) (M.view.loc (c : Thread nD τ)))
    (hj : j < 16 := by decide) : sProp 𝕄 :=
  (slotI M j hj).view.loc (c : Thread nD τ) ↦[(slotI M j hj).view.set]{fullShare} f

omit [FloatOps F] in
/-- A buffer held whole is held slot by slot. -/
theorem splitI (c : Dev nD) (M : Memref sig .tc .vmem S16x3x128x512 .f32) (f : Buf (Elt F) (M.view.loc (c : Thread nD τ))) :
    (M.view.loc (c : Thread nD τ) ↦[M.view.set]{fullShare} f : sProp 𝕄)
      ⊢ iprop(heldI c M 0 f ∗ heldI c M 1 f ∗ heldI c M 2 f ∗ heldI c M 3 f ∗ heldI c M 4 f ∗ heldI c M 5 f ∗ heldI c M 6 f ∗ heldI c M 7 f ∗ heldI c M 8 f ∗ heldI c M 9 f ∗ heldI c M 10 f ∗ heldI c M 11 f ∗ heldI c M 12 f ∗ heldI c M 13 f ∗ heldI c M 14 f ∗ heldI c M 15 f) := by
  rw [Ring.pointsTo_sub_blocks (ℓ := M.view.loc (c : Thread nD τ)) (fun b : Fin 16 => (slotI M b b.isLt).view.set) (slotsI M).1
    M.view.set (slotsI M).2 f, sep16]
  exact .rfl

omit [FloatOps F] in
/-- Slots held at contents of their own join to the buffer at some contents. -/
theorem joinI (c : Dev nD) (M : Memref sig .tc .vmem S16x3x128x512 .f32) (f0 f1 f2 f3 f4 f5 f6 f7 f8 f9 f10 f11 f12 f13 f14 f15 : Buf (Elt F) (M.view.loc (c : Thread nD τ))) :
    iprop(heldI c M 0 f0 ∗ heldI c M 1 f1 ∗ heldI c M 2 f2 ∗ heldI c M 3 f3 ∗ heldI c M 4 f4 ∗ heldI c M 5 f5 ∗ heldI c M 6 f6 ∗ heldI c M 7 f7 ∗ heldI c M 8 f8 ∗ heldI c M 9 f9 ∗ heldI c M 10 f10 ∗ heldI c M 11 f11 ∗ heldI c M 12 f12 ∗ heldI c M 13 f13 ∗ heldI c M 14 f14 ∗ heldI c M 15 f15)
      ⊢ (iprop(∃ g, M.view.loc (c : Thread nD τ) ↦[M.view.set]{fullShare} g) : sProp 𝕄) := by
  have h := pointsTo_biUnion_join (ℓ := M.view.loc (c : Thread nD τ)) (q := fullShare) (Ix := Unit) (Name := ℕ)
    (U := Pipeline.UD sig nD τ) (Lvl := ℕ) Finset.univ (fun b : Fin 16 => (slotI M b b.isLt).view.set)
    ![f0, f1, f2, f3, f4, f5, f6, f7, f8, f9, f10, f11, f12, f13, f14, f15] f0 (fun b _ b' _ hb => (slotsI M).1 b b' hb)
  rw [(slotsI M).2, sep16] at h
  refine BIBase.Entails.trans ?_ (h.trans ?_)
  · exact .rfl
  · iintro ⟨%g, -, H⟩; iexists g; iexact H

/-- Slot `j` held at contents `f`. -/
abbrev heldH (c : Dev nD) (M : Memref sig .tc .vmem S16x3x128x128 .f32) (j : ℕ) (f : Buf (Elt F) (M.view.loc (c : Thread nD τ)))
    (hj : j < 16 := by decide) : sProp 𝕄 :=
  (slotH M j hj).view.loc (c : Thread nD τ) ↦[(slotH M j hj).view.set]{fullShare} f

omit [FloatOps F] in
/-- A buffer held whole is held slot by slot. -/
theorem splitH (c : Dev nD) (M : Memref sig .tc .vmem S16x3x128x128 .f32) (f : Buf (Elt F) (M.view.loc (c : Thread nD τ))) :
    (M.view.loc (c : Thread nD τ) ↦[M.view.set]{fullShare} f : sProp 𝕄)
      ⊢ iprop(heldH c M 0 f ∗ heldH c M 1 f ∗ heldH c M 2 f ∗ heldH c M 3 f ∗ heldH c M 4 f ∗ heldH c M 5 f ∗ heldH c M 6 f ∗ heldH c M 7 f ∗ heldH c M 8 f ∗ heldH c M 9 f ∗ heldH c M 10 f ∗ heldH c M 11 f ∗ heldH c M 12 f ∗ heldH c M 13 f ∗ heldH c M 14 f ∗ heldH c M 15 f) := by
  rw [Ring.pointsTo_sub_blocks (ℓ := M.view.loc (c : Thread nD τ)) (fun b : Fin 16 => (slotH M b b.isLt).view.set) (slotsH M).1
    M.view.set (slotsH M).2 f, sep16]
  exact .rfl

omit [FloatOps F] in
/-- Slots held at contents of their own join to the buffer at some contents. -/
theorem joinH (c : Dev nD) (M : Memref sig .tc .vmem S16x3x128x128 .f32) (f0 f1 f2 f3 f4 f5 f6 f7 f8 f9 f10 f11 f12 f13 f14 f15 : Buf (Elt F) (M.view.loc (c : Thread nD τ))) :
    iprop(heldH c M 0 f0 ∗ heldH c M 1 f1 ∗ heldH c M 2 f2 ∗ heldH c M 3 f3 ∗ heldH c M 4 f4 ∗ heldH c M 5 f5 ∗ heldH c M 6 f6 ∗ heldH c M 7 f7 ∗ heldH c M 8 f8 ∗ heldH c M 9 f9 ∗ heldH c M 10 f10 ∗ heldH c M 11 f11 ∗ heldH c M 12 f12 ∗ heldH c M 13 f13 ∗ heldH c M 14 f14 ∗ heldH c M 15 f15)
      ⊢ (iprop(∃ g, M.view.loc (c : Thread nD τ) ↦[M.view.set]{fullShare} g) : sProp 𝕄) := by
  have h := pointsTo_biUnion_join (ℓ := M.view.loc (c : Thread nD τ)) (q := fullShare) (Ix := Unit) (Name := ℕ)
    (U := Pipeline.UD sig nD τ) (Lvl := ℕ) Finset.univ (fun b : Fin 16 => (slotH M b b.isLt).view.set)
    ![f0, f1, f2, f3, f4, f5, f6, f7, f8, f9, f10, f11, f12, f13, f14, f15] f0 (fun b _ b' _ hb => (slotsH M).1 b b' hb)
  rw [(slotsH M).2, sep16] at h
  refine BIBase.Entails.trans ?_ (h.trans ?_)
  · exact .rfl
  · iintro ⟨%g, -, H⟩; iexists g; iexact H

end Cert.Proof

end
-- ==== Proof.BodyRun.lean ====
module

public import proofs.«01_k».proof.Proof.Slots
public import proofs.«01_k».proof.Proof.Gen.KernelIdeal.Skeleton

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

/-- A buffer's contents type on core `c`. -/
abbrev HbBuf (c : Dev nD) {sp : Space} {S : Shape} {e : EltTy} (M : Memref sig .tc sp S e) : Type := Buf (Elt F) (M.view.loc (c : Thread nD τ))
/-- An array left in main memory, held whole. -/
abbrev hbPt (c : Dev nD) {sp : Space} {S : Shape} {e : EltTy} (M : Memref sig .tc sp S e) (f : HbBuf (F := F) c M) : sProp 𝕄 :=
  M.view.loc (c : Thread nD τ) ↦{fullShare} f
/-- The body's own transfer semaphores, all at zero. -/
abbrev sems0 (c : Dev nD) : sProp 𝕄 :=
  iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0)
/-- The five arrays the body copies from itself. -/
abbrev hbs (c : Dev nD) (fh0 : HbBuf (F := F) c (Memref.whole main_v4)) (fh1 : HbBuf (F := F) c (Memref.whole main_v5)) (fh2 : HbBuf (F := F) c (Memref.whole main_v6)) (fh3 : HbBuf (F := F) c (Memref.whole main_v0)) (fh4 : HbBuf (F := F) c (Memref.whole main_v1)) : sProp 𝕄 :=
  iprop(hbPt c (Memref.whole main_v4) fh0 ∗ hbPt c (Memref.whole main_v5) fh1 ∗ hbPt c (Memref.whole main_v6) fh2 ∗ hbPt c (Memref.whole main_v0) fh3 ∗ hbPt c (Memref.whole main_v1) fh4)
/-- The eleven staged inputs at their contents. -/
abbrev insAt (c : Dev nD) (arg1 : Memref sig .tc .vmem S16x1024 .f32) (arg2 : Memref sig .tc .vmem S16x2048 .f32) (arg3 : Memref sig .tc .vmem S16x64x128 .f32) (arg4 : Memref sig .tc .vmem S1x64x1024 .f32) (arg5 : Memref sig .tc .vmem S1x1024x512 .f32) (arg9 : Memref sig .tc .vmem S64x128 .f32) (arg10 : Memref sig .tc .vmem S128 .f32) (arg11 : Memref sig .tc .vmem S64x128 .f32) (arg12 : Memref sig .tc .vmem S128 .f32) (arg15 : Memref sig .tc .vmem S48x128 .f32) (arg16 : Memref sig .tc .vmem S48x128 .f32)
    (x0 : Vec F S16x1024 .f32) (x1 : Vec F S16x2048 .f32) (x2 : Vec F S16x64x128 .f32) (x3 : Vec F S1x64x1024 .f32) (x4 : Vec F S1x1024x512 .f32) (x5 : Vec F S64x128 .f32) (x6 : Vec F S128 .f32) (x7 : Vec F S64x128 .f32) (x8 : Vec F S128 .f32) (x9 : Vec F S48x128 .f32) (x10 : Vec F S48x128 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg15 fullShare x9 ∗ owns (c : Thread nD τ) arg16 fullShare x10)
/-- The scratch buffers at some contents. -/
abbrev scrAny (c : Dev nD) (arg19 : Memref sig .tc .vmem S16x3x128x512 .f32) (arg20 : Memref sig .tc .vmem S16x3x128x128 .f32) (arg21 : Memref sig .tc .vmem S16x64x128 .f32) (arg22 : Memref sig .tc .vmem S16x64x128 .f32) (arg23 : Memref sig .tc .vmem S16x64x128 .f32) : sProp 𝕄 :=
  iprop((∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d))
set_option maxHeartbeats 3892000 in
set_option sl_exec.dmaWindow true in
set_option sl_exec.dmaWindowSet true in
/-- The body's run, with what it leaves in its two results: on inputs at their contents, transfers' semaphores at zero and the
    arrays in main memory held, the body ends with all of them as they were and each result at contents the run finds. -/
def bodyRun (c : Dev nD) (i : grid0.Coords)
    (arg1 : Memref sig .tc .vmem S16x1024 .f32) (harg1 : arg1.IsWhole) (arg2 : Memref sig .tc .vmem S16x2048 .f32) (harg2 : arg2.IsWhole) (arg3 : Memref sig .tc .vmem S16x64x128 .f32) (harg3 : arg3.IsWhole) (arg4 : Memref sig .tc .vmem S1x64x1024 .f32) (harg4 : arg4.IsWhole) (arg5 : Memref sig .tc .vmem S1x1024x512 .f32) (harg5 : arg5.IsWhole) (arg9 : Memref sig .tc .vmem S64x128 .f32) (harg9 : arg9.IsWhole) (arg10 : Memref sig .tc .vmem S128 .f32) (harg10 : arg10.IsWhole) (arg11 : Memref sig .tc .vmem S64x128 .f32) (harg11 : arg11.IsWhole) (arg12 : Memref sig .tc .vmem S128 .f32) (harg12 : arg12.IsWhole) (arg15 : Memref sig .tc .vmem S48x128 .f32) (harg15 : arg15.IsWhole) (arg16 : Memref sig .tc .vmem S48x128 .f32) (harg16 : arg16.IsWhole)
    (arg17 : Memref sig .tc .vmem S16x2048 .f32) (harg17 : arg17.IsWhole) (arg18 : Memref sig .tc .vmem S16x2048 .f32) (harg18 : arg18.IsWhole)
    (arg19 : Memref sig .tc .vmem S16x3x128x512 .f32) (harg19 : arg19.IsWhole) (arg20 : Memref sig .tc .vmem S16x3x128x128 .f32) (harg20 : arg20.IsWhole) (arg21 : Memref sig .tc .vmem S16x64x128 .f32) (harg21 : arg21.IsWhole) (arg22 : Memref sig .tc .vmem S16x64x128 .f32) (harg22 : arg22.IsWhole) (arg23 : Memref sig .tc .vmem S16x64x128 .f32) (harg23 : arg23.IsWhole)
    (x0 : Vec F S16x1024 .f32) (x1 : Vec F S16x2048 .f32) (x2 : Vec F S16x64x128 .f32) (x3 : Vec F S1x64x1024 .f32) (x4 : Vec F S1x1024x512 .f32) (x5 : Vec F S64x128 .f32) (x6 : Vec F S128 .f32) (x7 : Vec F S64x128 .f32) (x8 : Vec F S128 .f32) (x9 : Vec F S48x128 .f32) (x10 : Vec F S48x128 .f32)
    (fh0 : HbBuf (F := F) c (Memref.whole main_v4)) (fh1 : HbBuf (F := F) c (Memref.whole main_v5)) (fh2 : HbBuf (F := F) c (Memref.whole main_v6)) (fh3 : HbBuf (F := F) c (Memref.whole main_v0)) (fh4 : HbBuf (F := F) c (Memref.whole main_v1)) :
    Σ' (L17 : List (View.Piece (Elt F) S16x2048 .f32)), { L18 : List (View.Piece (Elt F) S16x2048 .f32) //
      ∀ (W : Waits sig Unit) (K : PUnit → sProp 𝕄),
      iprop((insAt c arg1 arg2 arg3 arg4 arg5 arg9 arg10 arg11 arg12 arg15 arg16 x0 x1 x2 x3 x4 x5 x6 x7 x8 x9 x10 ∗ sems0 c ∗ hbs c fh0 fh1 fh2 fh3 fh4) ∗ ((∃ d, owns (c : Thread nD τ) arg17 fullShare d) ∗ (∃ d, owns (c : Thread nD τ) arg18 fullShare d))
          ∗ scrAny c arg19 arg20 arg21 arg22 arg23 ∗ owes (c : Thread nD τ) 0 W
          ∗ (iprop((insAt c arg1 arg2 arg3 arg4 arg5 arg9 arg10 arg11 arg12 arg15 arg16 x0 x1 x2 x3 x4 x5 x6 x7 x8 x9 x10 ∗ sems0 c ∗ hbs c fh0 fh1 fh2 fh3 fh4) ∗ ((∃ g, arg17.view.loc (c : Thread nD τ) ↦[arg17.view.set]{fullShare} arg17.view.writes (Elt F) g L17) ∗ (∃ g, arg18.view.loc (c : Thread nD τ) ↦[arg18.view.set]{fullShare} arg18.view.writes (Elt F) g L18))
              ∗ scrAny c arg19 arg20 arg21 arg22 arg23 ∗ (∃ W', owes (c : Thread nD τ) 0 W')) -∗ K ⟨⟩))
        ⊢ wp frame (wpE (defs₀ (F := F)) Variants.none c none) Set.univ (cc0__fused i arg1 harg1 arg2 harg2 arg3 harg3 arg4 harg4 arg5 harg5 (Memref.whole main_v4) (Memref.isWhole_whole _) (Memref.whole main_v5) (Memref.isWhole_whole _) (Memref.whole main_v6) (Memref.isWhole_whole _) arg9 harg9 arg10 harg10 arg11 harg11 arg12 harg12 (Memref.whole main_v0) (Memref.isWhole_whole _) (Memref.whole main_v1) (Memref.isWhole_whole _) arg15 harg15 arg16 harg16 arg17 harg17 arg18 harg18 arg19 harg19 arg20 harg20 arg21 harg21 arg22 harg22 arg23 harg23 cc0_scratch5 cc0_scratch6 cc0_scratch7) K } := by
  refine ⟨?_, ?_, fun W K => ?run⟩
  case run =>
    simp only [cc0__fused_eq_skeleton]; unfold cc0__fused_skel
    simp only [k0_part71_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
    unfold insAt sems0 hbs scrAny owns
    iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34⟩, ⟨Hh0, Hh1, Hh2, Hh3, Hh4⟩⟩, ⟨⟨%d11, %f11, -, H11⟩, ⟨%d12, %f12, -, H12⟩⟩, ⟨⟨%ds0, %fs0, -, HS0⟩, ⟨%ds1, %fs1, -, HS1⟩, ⟨%ds2, %fs2, -, HS2⟩, ⟨%ds3, %fs3, -, HS3⟩, ⟨%ds4, %fs4, -, HS4⟩⟩, HW, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf5; obtain rfl := harg10.eq_unread hf6; obtain rfl := harg11.eq_unread hf7; obtain rfl := harg12.eq_unread hf8; obtain rfl := harg15.eq_unread hf9; obtain rfl := harg16.eq_unread hf10
    ihave HI := (splitI c arg19 fs0) $$ HS0
    ihave HH := (splitH c arg20 fs1) $$ HS1
    icases HI with ⟨HI0, HI1, HI2, HI3, HI4, HI5, HI6, HI7, HI8, HI9, HI10, HI11, HI12, HI13, HI14, HI15⟩
    icases HH with ⟨HJ0, HJ1, HJ2, HJ3, HJ4, HJ5, HJ6, HJ7, HJ8, HJ9, HJ10, HJ11, HJ12, HJ13, HJ14, HJ15⟩
    unfold heldI heldH slotI slotH
    sl_exec
    sl_step
    iapply Hk
    isplitl [H0 H1 H2 H3 H4 H5 H6 H7 H8 H9 H10 Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hh0 Hh1 Hh2 Hh3 Hh4]
    · isplitl [H0 H1 H2 H3 H4 H5 H6 H7 H8 H9 H10]
      · skip
        isplitl [H0]
        · iexists _; isplitr; · ipureintro; exact harg1.read_unread _
          iexact H0
        isplitl [H1]
        · iexists _; isplitr; · ipureintro; exact harg2.read_unread _
          iexact H1
        isplitl [H2]
        · iexists _; isplitr; · ipureintro; exact harg3.read_unread _
          iexact H2
        isplitl [H3]
        · iexists _; isplitr; · ipureintro; exact harg4.read_unread _
          iexact H3
        isplitl [H4]
        · iexists _; isplitr; · ipureintro; exact harg5.read_unread _
          iexact H4
        isplitl [H5]
        · iexists _; isplitr; · ipureintro; exact harg9.read_unread _
          iexact H5
        isplitl [H6]
        · iexists _; isplitr; · ipureintro; exact harg10.read_unread _
          iexact H6
        isplitl [H7]
        · iexists _; isplitr; · ipureintro; exact harg11.read_unread _
          iexact H7
        isplitl [H8]
        · iexists _; isplitr; · ipureintro; exact harg12.read_unread _
          iexact H8
        isplitl [H9]
        · iexists _; isplitr; · ipureintro; exact harg15.read_unread _
          iexact H9
        iexists _; isplitr; · ipureintro; exact harg16.read_unread _
        iexact H10
      isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        isplitl [Hq23]; · iexact Hq23
        isplitl [Hq24]; · iexact Hq24
        isplitl [Hq25]; · iexact Hq25
        isplitl [Hq26]; · iexact Hq26
        isplitl [Hq27]; · iexact Hq27
        isplitl [Hq28]; · iexact Hq28
        isplitl [Hq29]; · iexact Hq29
        isplitl [Hq30]; · iexact Hq30
        isplitl [Hq31]; · iexact Hq31
        isplitl [Hq32]; · iexact Hq32
        isplitl [Hq33]; · iexact Hq33
        iexact Hq34
      · iframe
    isplitl [H11 H12]
    · isplitl [H11]
      · iexists _; iexact H11
      · iexists _; iexact H12
    isplitl [HI0 HI1 HI2 HI3 HI4 HI5 HI6 HI7 HI8 HI9 HI10 HI11 HI12 HI13 HI14 HI15 HJ0 HJ1 HJ2 HJ3 HJ4 HJ5 HJ6 HJ7 HJ8 HJ9 HJ10 HJ11 HJ12 HJ13 HJ14 HJ15 HS2 HS3 HS4]
    · skip
      isplitl [HI0 HI1 HI2 HI3 HI4 HI5 HI6 HI7 HI8 HI9 HI10 HI11 HI12 HI13 HI14 HI15]
      · ihave HG := (joinI c arg19 _ _ _ _ _ _ _ _ _ _ _ _ _ _ _ _) $$ [HI0 HI1 HI2 HI3 HI4 HI5 HI6 HI7 HI8 HI9 HI10 HI11 HI12 HI13 HI14 HI15]
        · iframe
        icases HG with ⟨%g, HG⟩
        iexists _, g; isplitr; swap; · iexact HG
        ipureintro; rfl
      isplitl [HJ0 HJ1 HJ2 HJ3 HJ4 HJ5 HJ6 HJ7 HJ8 HJ9 HJ10 HJ11 HJ12 HJ13 HJ14 HJ15]
      · ihave HG := (joinH c arg20 _ _ _ _ _ _ _ _ _ _ _ _ _ _ _ _) $$ [HJ0 HJ1 HJ2 HJ3 HJ4 HJ5 HJ6 HJ7 HJ8 HJ9 HJ10 HJ11 HJ12 HJ13 HJ14 HJ15]
        · iframe
        icases HG with ⟨%g, HG⟩
        iexists _, g; isplitr; swap; · iexact HG
        ipureintro; rfl
      isplitl [HS2]
      · iexists _, _; isplitr; swap; · iexact HS2
        ipureintro; rfl
      isplitl [HS3]
      · iexists _, _; isplitr; swap; · iexact HS3
        ipureintro; rfl
      iexists _, _; isplitr; swap; · iexact HS4
      ipureintro; rfl
    iexists _; iexact HW

end Cert.Proof

end
-- ==== Proof.Frame.lean ====
module

public import proofs.«01_k».proof.Proof.BodyRun
public import proofs.«01_k».proof.Proof.Gen.KernelIdeal.Frame
public import Idealize.ShloMosaic.Lib.Claim

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The host program up to the kernel's call, over the assertions of a body that copies by its own transfers. -/
theorem hmainUD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The cells of the body's own transfers. -/
abbrev ownCells : Fin 35 → SemLoc sig := fun j => (![SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47] : Fin 35 → SemLoc sig) j

/-- These cells are apart from each other and from the staging's. -/
theorem ownCells_facts : Pipeline.OwnSemFacts spec0 ownCells := by decide

/-- The arrays the body copies from main memory. -/
def copied : Finset (Ref sig .tc) := {main_v4, main_v5, main_v6, main_v0, main_v1}

/-- None of them is staged. -/
theorem copied_sub : copied ⊆ Pipeline.restRefs sig spec0 := by decide

/-- The body's own cells at zero, one by one. -/
theorem ownSems_eq (c : Dev nD) : (Pipeline.ownSems0 (Ix := Unit) (Name := ℕ) (U := Pipeline.UD sig nD τ) (Lvl := ℕ) (Val := Elt F) (τ := τ) ownCells c : sProp 𝕄) = sems0 c := by
  rw [Pipeline.ownSems0_eq_of_list c ownCells [0, 1, 2, 3, 4, 5, 6, 7, 8, 9, 10, 11, 12, 13, 14, 15, 16, 17, 18, 19, 20, 21, 22, 23, 24, 25, 26, 27, 28, 29, 30, 31, 32, 33, 34] (by decide) (by decide)]; rfl

/-- The copied arrays, one by one. -/
theorem copiedPts_eq (c : Dev nD) : (bigSep copied (fun b => ((c : Thread nD τ).loc b) ↦{fullShare} V m c b) : sProp 𝕄) = hbs c (V m c main_v4) (V m c main_v5) (V m c main_v6) (V m c main_v0) (V m c main_v1) := by
  rw [BI.bigSep_eq_bigSepL_of_eq [main_v4, main_v5, main_v6, main_v0, main_v1] (by decide) (by decide)]; rfl

/-- What the body keeps between points: its scratch, the generator's register, its cells at zero and the copied arrays. -/
theorem inv_eq (c : Dev nD) :
    (Pipeline.ΦD ownCells spec0 copied (V m) c : sProp 𝕄)
      = iprop(scrAny c (Memref.whole cc0_scratch0) (Memref.whole cc0_scratch1) (Memref.whole cc0_scratch2) (Memref.whole cc0_scratch3) (Memref.whole cc0_scratch4) ∗ (∃ r, prngReg c r) ∗ sems0 c ∗ hbs c (V m c main_v4) (V m c main_v5) (V m c main_v6) (V m c main_v0) (V m c main_v1)) := by
  rw [Pipeline.ΦD_eq, scopedRest0_eq, ownSems_eq, copiedPts_eq]; simp only [scrAny, owns_whole]; try rfl

/-- The body's run at a point of the grid: its staging buffers, and the arrays as the call finds them. -/
def runAt (c : Dev nD) (t : Fin cfg0.N) :=
  bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v4) (V m c main_v5) (V m c main_v6) (V m c main_v0) (V m c main_v1)

/-- The first result's block after the body. -/
def out0 (c : Dev nD) (t : Fin cfg0.N) : Vec F S16x2048 .f32 :=
  (View.whole main_v9_0).read (Elt F) ((View.whole main_v9_0).writes (Elt F) (View.whole main_v9_0).junk (runAt m c t).1)
/-- The second result's block after the body. -/
def out1 (c : Dev nD) (t : Fin cfg0.N) : Vec F S16x2048 .f32 :=
  (View.whole main_v9_1).read (Elt F) ((View.whole main_v9_1).writes (Elt F) (View.whole main_v9_1).junk (runAt m c t).2.1)

/-- The sixteen column blocks stored in the first result tile it. -/
theorem tiled0 (c : Dev nD) (t : Fin cfg0.N) : View.Piece.tiled (runAt m c t).1 ![16, 128] = true := by rfl
/-- The sixteen column blocks stored in the second result tile it. -/
theorem tiled1 (c : Dev nD) (t : Fin cfg0.N) : View.Piece.tiled (runAt m c t).2.1 ![16, 128] = true := by rfl

/-- The call's arrays, and what the body leaves in each staging buffer: an input's block, a result's value. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0 m c t
    | ⟨12, _⟩ => out1 m c t
  Φ _ := Pipeline.ΦD ownCells spec0 copied (V m) c
  q _ := fullShare
  owed _ := 0

/-- The arrays are those the call finds. -/
theorem A_eq (c : Dev nD) (w : Fin cfg0.W) : (dats m 0 c).A w = V m c (Pipeline.arrRef spec0 w) := by
  dsimp only [dats]

/-- Input 0's buffer is left at its block. -/
theorem after_0 (c : Dev nD) (t : Fin cfg0.N) : (dats m 0 c).after 0 t = iblk m c 0 t := by dsimp only [dats]
/-- Input 1's buffer is left at its block. -/
theorem after_1 (c : Dev nD) (t : Fin cfg0.N) : (dats m 0 c).after 1 t = iblk m c 1 t := by dsimp only [dats]
/-- Input 2's buffer is left at its block. -/
theorem after_2 (c : Dev nD) (t : Fin cfg0.N) : (dats m 0 c).after 2 t = iblk m c 2 t := by dsimp only [dats]
/-- Input 3's buffer is left at its block. -/
theorem after_3 (c : Dev nD) (t : Fin cfg0.N) : (dats m 0 c).after 3 t = iblk m c 3 t := by dsimp only [dats]
/-- Input 4's buffer is left at its block. -/
theorem after_4 (c : Dev nD) (t : Fin cfg0.N) : (dats m 0 c).after 4 t = iblk m c 4 t := by dsimp only [dats]
/-- Input 5's buffer is left at its block. -/
theorem after_5 (c : Dev nD) (t : Fin cfg0.N) : (dats m 0 c).after 5 t = iblk m c 5 t := by dsimp only [dats]
/-- Input 6's buffer is left at its block. -/
theorem after_6 (c : Dev nD) (t : Fin cfg0.N) : (dats m 0 c).after 6 t = iblk m c 6 t := by dsimp only [dats]
/-- Input 7's buffer is left at its block. -/
theorem after_7 (c : Dev nD) (t : Fin cfg0.N) : (dats m 0 c).after 7 t = iblk m c 7 t := by dsimp only [dats]
/-- Input 8's buffer is left at its block. -/
theorem after_8 (c : Dev nD) (t : Fin cfg0.N) : (dats m 0 c).after 8 t = iblk m c 8 t := by dsimp only [dats]
/-- Input 9's buffer is left at its block. -/
theorem after_9 (c : Dev nD) (t : Fin cfg0.N) : (dats m 0 c).after 9 t = iblk m c 9 t := by dsimp only [dats]
/-- Input 10's buffer is left at its block. -/
theorem after_10 (c : Dev nD) (t : Fin cfg0.N) : (dats m 0 c).after 10 t = iblk m c 10 t := by dsimp only [dats]
/-- Input 0's buffer holds its block. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; rfl) t d).trans rfl
/-- Input 1's buffer holds its block. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; rfl) t d).trans rfl
/-- Input 2's buffer holds its block. -/
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; rfl) t d).trans rfl
/-- Input 3's buffer holds its block. -/
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; rfl) t d).trans rfl
/-- Input 4's buffer holds its block. -/
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; rfl) t d).trans rfl
/-- Input 5's buffer holds its block. -/
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; rfl) t d).trans rfl
/-- Input 6's buffer holds its block. -/
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; rfl) t d).trans rfl
/-- Input 7's buffer holds its block. -/
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; rfl) t d).trans rfl
/-- Input 8's buffer holds its block. -/
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; rfl) t d).trans rfl
/-- Input 9's buffer holds its block. -/
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; rfl) t d).trans rfl
/-- Input 10's buffer holds its block. -/
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; rfl) t d).trans rfl

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))

/-- What the body returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t))

set_option maxHeartbeats 1600000 in
/-- The body at a point takes its precondition to its postcondition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl, after_0, after_1, after_2, after_3, after_4, after_5, after_6, after_7, after_8, after_9, after_10]
  rw [show (dats m 0 c).Φ t.castSucc = Pipeline.ΦD ownCells spec0 copied (V m) c from rfl, inv_eq]
  unfold Dat.owesAt Pipeline.owesWithin
  rw [show (dats m 0 c).owed t.castSucc = 0 from rfl, show (dats m 0 c).owed t.succ = 0 from rfl]
  iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12⟩
  iapply ((runAt m c t).2.2 W _)
  isplitl [H0 H1 H2 H3 H4 H5 H6 H7 H8 H9 H10 Hq Hh]
  · isplitl [H0 H1 H2 H3 H4 H5 H6 H7 H8 H9 H10]
    · unfold insAt; iframe
    isplitl [Hq]
    · iexact Hq
    iexact Hh
  isplitl [H11 H12]
  · isplitl [H11]
    · icases H11 with ⟨%d, H11⟩; iexists _; iexact H11
    icases H12 with ⟨%d, H12⟩; iexists _; iexact H12
  isplitl [HS]
  · iexact HS
  isplitl [HW]
  · iexact HW
  unfold insAt
  iintro ⟨⟨⟨H0, H1, H2, H3, H4, H5, H6, H7, H8, H9, H10⟩, Hq, Hh⟩, ⟨⟨%g11, H11⟩, ⟨%g12, H12⟩⟩, HS, ⟨%W', HW'⟩⟩
  isplitl [HS Hg Hq Hh]
  · iframe
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · ihave H' := (Ring.owns_of_writes_tiled (View.whole main_v9_0) ![16, 128]) $$ H11
    iapply H'; ipureintro; exact tiled0 m c t
  ihave H' := (Ring.owns_of_writes_tiled (View.whole main_v9_1) ![16, 128]) $$ H12
  iapply H'; ipureintro; exact tiled1 m c t

/-- The body called at a point is the body of the kernel at that point's buffers. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The kernel's run: every array ends at what the staging leaves there, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 ownCells defs₀ Variants.none ownCells_facts copied copied_sub m ρ main
    (hbody := fun c => (body_obligation m c).loose) (hshare := fun c => (dats m 0 c).share_full fun _ => rfl)
    (howed := fun _ _ => rfl) (V := V m) (hmain := hmainUD m Variants.none) (hA := A_eq m) (hin := fun _ => .rfl) (hout := fun _ => .rfl)

/-- The arguments of the kernel program end as they began. -/
def ArgsKept (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)

set_option maxHeartbeats 1020000 in
/-- After the run every argument is as it began. -/
theorem kept_of_post {r : PUnit × MemSt nD τ sig (Elt F)} (h : Pipeline.FramePost cfgs (dats m) 0 (V m) r) : ArgsKept m r := fun c =>
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 4).trans (((dats m 0 c).arrAt_in 4 rfl _).trans ((A_eq m c 4).trans (V_main_arg4 m c))),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).1 5).trans (((dats m 0 c).arrAt_in 5 rfl _).trans ((A_eq m c 5).trans (V_main_arg8 m c))),
    ((h c).1 6).trans (((dats m 0 c).arrAt_in 6 rfl _).trans ((A_eq m c 6).trans (V_main_arg9 m c))),
    ((h c).1 7).trans (((dats m 0 c).arrAt_in 7 rfl _).trans ((A_eq m c 7).trans (V_main_arg10 m c))),
    ((h c).1 8).trans (((dats m 0 c).arrAt_in 8 rfl _).trans ((A_eq m c 8).trans (V_main_arg11 m c))),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c)⟩

end Cert.Proof

end
-- ==== Proof.Frames.lean ====
module

public import proofs.«01_k».proof.Defs
public import proofs.«01_k».proof.Proof.Frame
public import proofs.«01_k».proof.Proof.Gen.Kernel
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.SL.Sem

/-- The printed kernel and the kernel of the ideal pass have one body. -/
theorem bodyEq (h : Cert.Kernel.Facts) (h' : Cert.KernelIdeal.Facts) :
    @Cert.Kernel.cc0__fused Bits _ h = @Cert.KernelIdeal.cc0__fused Bits _ h' := rfl

/-- Their tables of bodies are one. -/
theorem tableEq (h : Cert.Kernel.Facts) (h' : Cert.KernelIdeal.Facts) :
    @Cert.Kernel.defs₀ Bits _ h = @Cert.KernelIdeal.defs₀ Bits _ h' := by
  unfold Cert.Kernel.defs₀ Cert.KernelIdeal.defs₀
  refine congrArg _ ?_
  funext l x
  match l with
  | 0 =>
    obtain ⟨t, s⟩ := x
    dsimp only
    rw [bodyEq h h']
    rfl

/-- Their programs run over one table. -/
theorem defsEq (h : Cert.Kernel.Facts) (h' : Cert.KernelIdeal.Facts) :
    @Cert.Kernel.defs Bits _ h = @Cert.KernelIdeal.defs Bits _ h' := by
  unfold Cert.Kernel.defs Cert.KernelIdeal.defs
  rw [tableEq h h']
  rfl

/-- They are one program. -/
theorem mainEq (h : Cert.Kernel.Facts) (h' : Cert.KernelIdeal.Facts) :
    @Cert.Kernel.main Bits h = @Cert.KernelIdeal.main Bits h' := rfl

/-- From any memory the kernel ends with its arguments as they were and every counter at zero. -/
theorem run_kept {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => ArgsKept m r ∧ r.2.sem = fun _ => 0) :=
  (θ_run _ _ _).mono (fun _ h => ⟨kept_of_post m h.1, h.2⟩) (run_main m ρ)

/-- The kernel at the machine's floats keeps its arguments. -/
theorem frame_kernel : Cert.quiescent_Kernel (hKernel := Cert.Kernel.Gen.facts) := fun m g _ => by
  have e := run_kept (F := Bits) m g
  rw [← defsEq Cert.Kernel.Gen.facts Cert.KernelIdeal.Gen.facts, ← mainEq Cert.Kernel.Gen.facts Cert.KernelIdeal.Gen.facts] at e
  exact e

/-- The kernel at exact arithmetic keeps its arguments. -/
theorem frame_kernelIdeal : Cert.quiescent_KernelIdeal (hKernelIdeal := Cert.KernelIdeal.Gen.facts) := fun m g _ =>
  run_kept (F := Ideal) m g

/-- The reference keeps its arguments. -/
theorem frame_reference : Cert.quiescent_ReferenceIdeal (hReferenceIdeal := Cert.ReferenceIdeal.Gen.facts) := fun m g _ =>
  (θ_run _ _ _).mono (fun r h => ⟨fun c => (h c).2.2, sem_eq_zero_of_no_sems (by rfl) r.2⟩) (Cert.ReferenceIdeal.Value.run m g)

end Cert.Proof

end
-- ==== Proof.Cell.lean ====
module

public import proofs.«01_k».proof.Proof.Gen.KernelIdeal.Skeleton
public import Mathlib.Tactic.IntervalCases

@[expose] public section

set_option maxRecDepth 16384

noncomputable section

/-! The kernel's arithmetic, one block at a time: what each block of the cell computes from the values it loads, as a
function of those values, in the kernel's own operations. -/

namespace Cert.Proof

open Idealize.ShloMosaic Idealize.ShloMosaic.TcCoe
open Cert.KernelIdeal Cert.KernelIdeal.Gen

variable {F : FTy → Type} [FloatOps F]

/-- The key of the real input, one row per batch entry. -/
def keyV (x : Vec F S16x1024 .f32) (w : Vec F S1x64x1024 .f32) : FVec F S16x64 .f32 :=
  matmul dot_S16x1024_S64x1024_S16x64_1_1_0_0_n_n none x (shapeCast S64x1024 w shapeCasts_S1x64x1024_S64x1024)
    (constant S16x64 .f32 0x00000000#32)

/-- The value of the real input, one row per batch entry. -/
def valV (x : Vec F S16x1024 .f32) (w : Vec F S1x1024x512 .f32) : FVec F S16x512 .f32 :=
  matmul dot_S16x1024_S1024x512_S16x512_1_0_0_1_n_n none x (shapeCast S1024x512 w shapeCasts_S1x1024x512_S1024x512)
    (constant S16x512 .f32 0x00000000#32)

/-- The square of ones on the diagonal. -/
def eyeV : FVec F S16x16 .f32 :=
  sitofp .f32 (extui 32 (cmpi .eq (iota .tc S16x16 32 [0] iota_S16x16_d0_w32) (iota .tc S16x16 32 [1] iota_S16x16_d1_w32)) natLt_1_32)

/-- A block's score against the real input. -/
def logitV (k1 : FVec F S16x64 .f32) (h : Vec F S16x128 .f32) (w : Vec F S1x64x128 .f32) : FVec F S16x1 .f32 :=
  mulf
    (shapeCast S16x1
      (multiReduction .add [1] S16
        (mulf
          (matmul dot_S16x64_S16x64_S16x16_1_1_0_0_n_n none
            (matmul dot_S16x128_S64x128_S16x64_1_1_0_0_n_n none h (shapeCast S64x128 w shapeCasts_S1x64x128_S64x128)
              (constant S16x64 .f32 0x00000000#32))
            k1 (constant S16x16 .f32 0x00000000#32))
          (eyeV (F := F)))
        0x00000000#32 reduces_S16x16_S16 (.inl rfl) rfl)
      shapeCasts_S16_S16x1)
    (broadcast S16x1 (Scalar.ofBits .f32 0x3E000000#32 : F .f32))

/-- The larger of the score and the empty input's score, zero. -/
def topV (l : FVec F S16x1 .f32) : FVec F S16x1 .f32 :=
  maximumf l (broadcast S16x1 (Scalar.ofBits .f32 0x00000000#32 : F .f32))
/-- The empty input's weight before normalisation. -/
def e0V (l : FVec F S16x1 .f32) : FVec F S16x1 .f32 :=
  exp (subf (broadcast S16x1 (Scalar.ofBits .f32 0x00000000#32 : F .f32)) (topV l))
/-- The real input's weight before normalisation. -/
def e1V (l : FVec F S16x1 .f32) : FVec F S16x1 .f32 := exp (subf l (topV l))
/-- The empty input's attention weight. -/
def p0V (l : FVec F S16x1 .f32) : FVec F S16x1 .f32 := divf (e0V l) (addf (e0V l) (e1V l))
/-- The block's attended input: the real input's weight times its value. -/
def attV (l : FVec F S16x1 .f32) (v1 : FVec F S16x512 .f32) : FVec F S16x512 .f32 :=
  mulf (broadcastTo S16x512 (divf (e1V l) (addf (e0V l) (e1V l))) broadcasts_S16x1_S16x512) v1

/-- A block's three input gates, side by side, before their biases. -/
def giV (xj : FVec F S16x512 .f32) (w : Vec F S1x3x128x512 .f32) : FVec F S16x384 .f32 :=
  matmul dot_S16x512_S384x512_S16x384_1_1_0_0_n_n none (truncf .bf16 xj bitsLt_bf16_f32)
    (truncf .bf16 (shapeCast S384x512 (shapeCast S3x128x512 w shapeCasts_S1x3x128x512_S3x128x512) shapeCasts_S3x128x512_S384x512) bitsLt_bf16_f32)
    (constant S16x384 .f32 0x00000000#32)
/-- A block's three state gates, side by side, before their biases. -/
def ghV (h : Vec F S16x128 .f32) (w : Vec F S1x3x128x128 .f32) : FVec F S16x384 .f32 :=
  matmul dot_S16x128_S384x128_S16x384_1_1_0_0_n_n none (truncf .bf16 h bitsLt_bf16_f32)
    (truncf .bf16 (shapeCast S384x128 (shapeCast S3x128x128 w shapeCasts_S1x3x128x128_S3x128x128) shapeCasts_S3x128x128_S384x128) bitsLt_bf16_f32)
    (constant S16x384 .f32 0x00000000#32)
/-- A bias row repeated for every batch entry. -/
def biasV (b : Vec F S1x128 .f32) : FVec F S16x128 .f32 :=
  broadcastTo S16x128 (shapeCast S1x128 b shapeCasts_S1x128_S1x128) broadcasts_S1x128_S16x128
/-- The first gate of three with its bias. -/
def gateR (g : FVec F S16x384 .f32) (b : Vec F S1x128 .f32) : FVec F S16x128 .f32 :=
  addf (extractStridedSlice S16x128 ![0, 0] g slices_S16x384_o0_0_S16x128) (biasV b)
/-- The second gate of three with its bias. -/
def gateZ (g : FVec F S16x384 .f32) (b : Vec F S1x128 .f32) : FVec F S16x128 .f32 :=
  addf (extractStridedSlice S16x128 ![0, 128] g slices_S16x384_o0_128_S16x128) (biasV b)
/-- The third gate of three with its bias. -/
def gateN (g : FVec F S16x384 .f32) (b : Vec F S1x128 .f32) : FVec F S16x128 .f32 :=
  addf (extractStridedSlice S16x128 ![0, 256] g slices_S16x384_o0_256_S16x128) (biasV b)

/-- The gated cell: the new state from the three input gates, the three state gates and the old state. -/
def cellV (ir hr iz hz inn hn h : FVec F S16x128 .f32) : FVec F S16x128 .f32 :=
  addf
    (mulf (subf (broadcast S16x128 (Scalar.ofBits .f32 0x3F800000#32 : F .f32)) (logistic (addf iz hz)))
      (tanh (addf inn (mulf (logistic (addf ir hr)) hn))))
    (mulf (logistic (addf iz hz)) h)

/-- A block's new state from what it loads. -/
def newV (xj : FVec F S16x512 .f32) (h : Vec F S16x128 .f32) (wi : Vec F S1x3x128x512 .f32) (wh : Vec F S1x3x128x128 .f32)
    (bir biz bin bhr bhz bhn : Vec F S1x128 .f32) : FVec F S16x128 .f32 :=
  cellV (gateR (giV xj wi) bir) (gateR (ghV h wh) bhr) (gateZ (giV xj wi) biz) (gateZ (ghV h wh) bhz)
    (gateN (giV xj wi) bin) (gateN (ghV h wh) bhn) h

/-- Sixteen one-column blocks side by side. -/
def colsV (p : Fin 16 → FVec F S16x1 .f32) : FVec F S16x16 .f32 :=
  concatenate S16x16 1 [⟨S16x1, p 0⟩, ⟨S16x1, p 1⟩, ⟨S16x1, p 2⟩, ⟨S16x1, p 3⟩, ⟨S16x1, p 4⟩, ⟨S16x1, p 5⟩, ⟨S16x1, p 6⟩, ⟨S16x1, p 7⟩,
    ⟨S16x1, p 8⟩, ⟨S16x1, p 9⟩, ⟨S16x1, p 10⟩, ⟨S16x1, p 11⟩, ⟨S16x1, p 12⟩, ⟨S16x1, p 13⟩, ⟨S16x1, p 14⟩, ⟨S16x1, p 15⟩]
    concatenates_S16x1_S16x1_S16x1_S16x1_S16x1_S16x1_S16x1_S16x1_S16x1_S16x1_S16x1_S16x1_S16x1_S16x1_S16x1_S16x1_S16x16_d1

/-- A column of a square is inside it. -/
theorem colIn (k : ℕ) (hk : k < 16) : Shape.Slices S16x16 ![0, k] S16x1 := by
  interval_cases k <;> decide

/-- One at each place that column `k` beats, or ties with from further left, and zero elsewhere. -/
def beatV (sc : FVec F S16x16 .f32) (k : ℕ) (hk : k < 16 := by decide) : FVec F S16x16 .f32 :=
  sitofp .f32 (extui 32
    (ori (cmpf .ogt (broadcastTo S16x16 (extractStridedSlice S16x1 ![0, k] sc (colIn k hk)) broadcasts_S16x1_S16x16) sc)
      (andi (cmpf .oeq (broadcastTo S16x16 (extractStridedSlice S16x1 ![0, k] sc (colIn k hk)) broadcasts_S16x1_S16x16) sc)
        (cmpi .sgt (iota .tc S16x16 32 [1] iota_S16x16_d1_w32) (broadcast S16x16 (BitVec.ofNat 32 k)))))
    natLt_1_32)

/-- How many columns come before each place in descending order, ties left first. -/
def rankV (sc : FVec F S16x16 .f32) : FVec F S16x16 .f32 :=
  addf (addf (addf (addf (addf (addf (addf (addf (addf (addf (addf (addf (addf (addf (addf (addf
    (broadcast S16x16 (Scalar.ofBits .f32 0x00000000#32 : F .f32))
    (beatV sc 0)) (beatV sc 1)) (beatV sc 2)) (beatV sc 3)) (beatV sc 4)) (beatV sc 5)) (beatV sc 6)) (beatV sc 7))
    (beatV sc 8)) (beatV sc 9)) (beatV sc 10)) (beatV sc 11)) (beatV sc 12)) (beatV sc 13)) (beatV sc 14)) (beatV sc 15)

/-- One where at least eight columns come before, zero elsewhere. -/
def maskV (sc : FVec F S16x16 .f32) : FVec F S16x16 .f32 :=
  sitofp .f32 (extui 32 (cmpf .oge (rankV sc) (broadcast S16x16 (Scalar.ofBits .f32 0x41000000#32 : F .f32))) natLt_1_32)

/-- A block's query, key or value: its new state against its own weights. -/
def projV (h : FVec F S16x128 .f32) (w : Vec F S1x64x128 .f32) : FVec F S16x64 .f32 :=
  matmul dot_S16x128_S64x128_S16x64_1_1_0_0_n_n none h (shapeCast S64x128 w shapeCasts_S1x64x128_S64x128)
    (constant S16x64 .f32 0x00000000#32)

/-- A block's row with a middle axis of one. -/
def rowV (q : FVec F S16x64 .f32) : FVec F S16x1x64 .f32 := shapeCast S16x1x64 q shapeCasts_S16x64_S16x1x64

/-- Sixteen blocks' rows stacked on a middle axis. -/
def stackV (q : Fin 16 → FVec F S16x64 .f32) : FVec F S16x16x64 .f32 :=
  concatenate S16x16x64 1 [⟨S16x1x64, rowV (q 0)⟩, ⟨S16x1x64, rowV (q 1)⟩, ⟨S16x1x64, rowV (q 2)⟩, ⟨S16x1x64, rowV (q 3)⟩,
    ⟨S16x1x64, rowV (q 4)⟩, ⟨S16x1x64, rowV (q 5)⟩, ⟨S16x1x64, rowV (q 6)⟩, ⟨S16x1x64, rowV (q 7)⟩, ⟨S16x1x64, rowV (q 8)⟩,
    ⟨S16x1x64, rowV (q 9)⟩, ⟨S16x1x64, rowV (q 10)⟩, ⟨S16x1x64, rowV (q 11)⟩, ⟨S16x1x64, rowV (q 12)⟩, ⟨S16x1x64, rowV (q 13)⟩,
    ⟨S16x1x64, rowV (q 14)⟩, ⟨S16x1x64, rowV (q 15)⟩]
    concatenates_S16x1x64_S16x1x64_S16x1x64_S16x1x64_S16x1x64_S16x1x64_S16x1x64_S16x1x64_S16x1x64_S16x1x64_S16x1x64_S16x1x64_S16x1x64_S16x1x64_S16x1x64_S16x1x64_S16x16x64_d1

/-- One head's scores. -/
def headLogits (q k : FVec F S16x16x16 .f32) : FVec F S16x16x16 .f32 :=
  mulf (matmul dot_S16x16x16_S16x16x16_S16x16x16_2_2_1_1_0_0 none q k (constant S16x16x16 .f32 0x00000000#32))
    (broadcast S16x16x16 (Scalar.ofBits .f32 0x3E800000#32 : F .f32))
/-- One head's weights before normalisation. -/
def headExp (l : FVec F S16x16x16 .f32) : FVec F S16x16x16 .f32 :=
  exp (subf l (broadcastTo S16x16x16
    (shapeCast S16x16x1 (multiReduction .maximumf [2] S16x16 l 0xFF800000#32 reduces_S16x16x16_S16x16 (.inl rfl) rfl) shapeCasts_S16x16_S16x16x1)
    broadcasts_S16x16x1_S16x16x16))
/-- One head's weights. -/
def headAttn (e : FVec F S16x16x16 .f32) : FVec F S16x16x16 .f32 :=
  divf e (broadcastTo S16x16x16
    (shapeCast S16x16x1 (multiReduction .add [2] S16x16 e 0x00000000#32 reduces_S16x16x16_S16x16 (.inl rfl) rfl) shapeCasts_S16x16_S16x16x1)
    broadcasts_S16x16x1_S16x16x16)
/-- One head's result from its queries, keys and values. -/
def headV (q k v : FVec F S16x16x16 .f32) : FVec F S16x16x16 .f32 :=
  matmul dot_S16x16x16_S16x16x16_S16x16x16_2_1_1_2_0_0 none (headAttn (headExp (headLogits q k))) v (constant S16x16x16 .f32 0x00000000#32)

/-- The four heads' results side by side. -/
def heads4 (Q K V : FVec F S16x16x64 .f32) : FVec F S16x16x64 .f32 :=
  concatenate S16x16x64 2
    [⟨S16x16x16, headV (extractStridedSlice S16x16x16 ![0, 0, 0] Q slices_S16x16x64_o0_0_0_S16x16x16)
      (extractStridedSlice S16x16x16 ![0, 0, 0] K slices_S16x16x64_o0_0_0_S16x16x16)
      (extractStridedSlice S16x16x16 ![0, 0, 0] V slices_S16x16x64_o0_0_0_S16x16x16)⟩,
     ⟨S16x16x16, headV (extractStridedSlice S16x16x16 ![0, 0, 16] Q slices_S16x16x64_o0_0_16_S16x16x16)
      (extractStridedSlice S16x16x16 ![0, 0, 16] K slices_S16x16x64_o0_0_16_S16x16x16)
      (extractStridedSlice S16x16x16 ![0, 0, 16] V slices_S16x16x64_o0_0_16_S16x16x16)⟩,
     ⟨S16x16x16, headV (extractStridedSlice S16x16x16 ![0, 0, 32] Q slices_S16x16x64_o0_0_32_S16x16x16)
      (extractStridedSlice S16x16x16 ![0, 0, 32] K slices_S16x16x64_o0_0_32_S16x16x16)
      (extractStridedSlice S16x16x16 ![0, 0, 32] V slices_S16x16x64_o0_0_32_S16x16x16)⟩,
     ⟨S16x16x16, headV (extractStridedSlice S16x16x16 ![0, 0, 48] Q slices_S16x16x64_o0_0_48_S16x16x16)
      (extractStridedSlice S16x16x16 ![0, 0, 48] K slices_S16x16x64_o0_0_48_S16x16x16)
      (extractStridedSlice S16x16x16 ![0, 0, 48] V slices_S16x16x64_o0_0_48_S16x16x16)⟩]
    concatenates_S16x16x16_S16x16x16_S16x16x16_S16x16x16_S16x16x64_d2

/-- A block's row of the stacked results is inside them. -/
theorem rowIn (i : ℕ) (hi : i < 16) : Shape.Slices S16x16x64 ![0, i, 0] S16x1x64 := by
  interval_cases i <;> decide

/-- Block `i`'s row of the stacked results. -/
def blockRow (O : FVec F S16x16x64 .f32) (i : ℕ) (hi : i < 16 := by decide) : FVec F S16x64 .f32 :=
  shapeCast S16x64 (extractStridedSlice S16x1x64 ![0, i, 0] O (rowIn i hi)) shapeCasts_S16x1x64_S16x64

/-- A product with a weight matrix plus its bias. -/
def affV (o : FVec F S16x64 .f32) (w : Vec F S64x128 .f32) (b : Vec F S128 .f32) : FVec F S16x128 .f32 :=
  addf (matmul dot_S16x64_S64x128_S16x128_1_0_0_1_n_n none o w (constant S16x128 .f32 0x00000000#32))
    (broadcastTo S16x128 (shapeCast S1x128 b shapeCasts_S128_S1x128) broadcasts_S1x128_S16x128)

/-- Column `i` of the mask. -/
def maskCol (M : FVec F S16x16 .f32) (i : ℕ) (hi : i < 16 := by decide) : FVec F S16x1 .f32 :=
  extractStridedSlice S16x1 ![0, i] M (colIn i hi)

/-- A block's final state: where its mask is one the new state plus its gated exchange, where it is zero the old state. -/
def outV (h old : FVec F S16x128 .f32) (mc : FVec F S16x1 .f32) (o : FVec F S16x64 .f32)
    (fw : Vec F S64x128 .f32) (fb : Vec F S128 .f32) (gw : Vec F S64x128 .f32) (gb : Vec F S128 .f32) : FVec F S16x128 .f32 :=
  addf
    (mulf (broadcastTo S16x128 mc broadcasts_S16x1_S16x128)
      (addf h (addf (mulf (logistic (affV o gw gb)) (tanh (affV o fw fb))) h)))
    (mulf (broadcastTo S16x128 (subf (broadcast S16x1 (Scalar.ofBits .f32 0x3F800000#32 : F .f32)) mc) broadcasts_S16x1_S16x128) old)

/-- A block's mask column repeated over its units. -/
def maskOut (mc : FVec F S16x1 .f32) : FVec F S16x128 .f32 :=
  broadcastTo S16x128 (shapeCast S16x1 mc shapeCasts_S16x1_S16x1) broadcasts_S16x1_S16x128

end Cert.Proof

end
-- ==== Proof.Spec.lean ====
module

public import Idealize.ShloMosaic.Lib.Pointwise

@[expose] public section

noncomputable section

/-! The cell in plain mathematics, one entry at a time: sixteen blocks of 128 units, each with its own input weights, its own
state weights and its own attention weights. -/

namespace Cert.Proof.Spec

open Idealize.ShloMosaic

/-- The numbers the cell is computed from, by batch entry, block, gate and unit. -/
structure Data where
  /-- The input. -/
  x : Fin 16 → Fin 1024 → EReal
  /-- The old state, by batch entry, block and unit. -/
  h : Fin 16 → Fin 16 → Fin 128 → EReal
  /-- The weights of the real input's key. -/
  wk : Fin 64 → Fin 1024 → EReal
  /-- The weights of the real input's value. -/
  wv : Fin 1024 → Fin 512 → EReal
  /-- The weights of each block's query. -/
  wq : Fin 16 → Fin 64 → Fin 128 → EReal
  /-- The input weights of each block's gates. -/
  wi : Fin 16 → Fin 3 → Fin 128 → Fin 512 → EReal
  /-- The state weights of each block's gates. -/
  wh : Fin 16 → Fin 3 → Fin 128 → Fin 128 → EReal
  /-- The input biases. -/
  bi : Fin 16 → Fin 3 → Fin 128 → EReal
  /-- The state biases. -/
  bh : Fin 16 → Fin 3 → Fin 128 → EReal
  /-- The exchange's query weights. -/
  aq : Fin 16 → Fin 64 → Fin 128 → EReal
  /-- The exchange's key weights. -/
  ak : Fin 16 → Fin 64 → Fin 128 → EReal
  /-- The exchange's value weights. -/
  av : Fin 16 → Fin 64 → Fin 128 → EReal
  /-- The exchange's output weights and biases, and its gate's. -/
  fw : Fin 64 → Fin 128 → EReal
  fb : Fin 128 → EReal
  gw : Fin 64 → Fin 128 → EReal
  gb : Fin 128 → EReal

variable (D : Data)

/-- The real input's key. -/
def key (b : Fin 16) (d : Fin 64) : EReal := ∑ k, D.x b k * D.wk d k
/-- The real input's value. -/
def val (b : Fin 16) (o : Fin 512) : EReal := ∑ k, D.x b k * D.wv k o
/-- A block's query. -/
def que (b j : Fin 16) (d : Fin 64) : EReal := ∑ k, D.h b j k * D.wq j d k
/-- A block's score against the real input. -/
def score (b j : Fin 16) : EReal := (∑ d, que D b j d * key D b d) * ((1 / 8 : ℝ) : EReal)
/-- The empty input's weight, from a score, before normalisation. -/
def w0 (s : EReal) : EReal := Ideal.exp (0 - max s 0)
/-- The real input's weight, from a score, before normalisation. -/
def w1 (s : EReal) : EReal := Ideal.exp (s - max s 0)
/-- The empty input's weight. -/
def null (b j : Fin 16) : EReal := Ideal.div (w0 (score D b j)) (w0 (score D b j) + w1 (score D b j))
/-- A block's attended input. -/
def att (b j : Fin 16) (o : Fin 512) : EReal :=
  Ideal.div (w1 (score D b j)) (w0 (score D b j) + w1 (score D b j)) * val D b o
/-- An input gate before its activation. -/
def gi (b j : Fin 16) (g : Fin 3) (c : Fin 128) : EReal := (∑ o, att D b j o * D.wi j g c o) + D.bi j g c
/-- A state gate before its activation. -/
def gh (b j : Fin 16) (g : Fin 3) (c : Fin 128) : EReal := (∑ k, D.h b j k * D.wh j g c k) + D.bh j g c
/-- The logistic function. -/
def sig (x : EReal) : EReal := Ideal.div 1 (1 + Ideal.exp (-x))
/-- The gated cell from its six gates and the old state. -/
def cell (ir hr iz hz inn hn h : EReal) : EReal :=
  (1 - sig (iz + hz)) * Ideal.tanh (inn + sig (ir + hr) * hn) + sig (iz + hz) * h
/-- A block's new state. -/
def new (b j : Fin 16) (c : Fin 128) : EReal :=
  cell (gi D b j 0 c) (gh D b j 0 c) (gi D b j 1 c) (gh D b j 1 c) (gi D b j 2 c) (gh D b j 2 c) (D.h b j c)

/-- How many blocks come before block `i` in descending order of `s`, ties left first. -/
def rank (s : Fin 16 → EReal) (i : Fin 16) : ℕ :=
  (Finset.univ.filter fun k => s i < s k ∨ (s k = s i ∧ k < i)).card
/-- Whether a block is updated: one if at least eight blocks attend to the empty input more, zero otherwise. -/
def mask (b j : Fin 16) : EReal := if 8 ≤ rank (null D b) j then 1 else 0

/-- A block's projection by its own weights. -/
def proj (w : Fin 16 → Fin 64 → Fin 128 → EReal) (b j : Fin 16) (d : Fin 64) : EReal := ∑ c, new D b j c * w j d c
/-- Lane `e` of head `n`. -/
def lane (n : Fin 4) (e : Fin 16) : Fin 64 := ⟨n * 16 + e, by omega⟩
/-- The head a lane belongs to. -/
def head (d : Fin 64) : Fin 4 := ⟨d / 16, by omega⟩
/-- A head's scores. -/
def logit (b : Fin 16) (n : Fin 4) (i j : Fin 16) : EReal :=
  (∑ e, proj D D.aq b i (lane n e) * proj D D.ak b j (lane n e)) * ((1 / 4 : ℝ) : EReal)
/-- A weight before normalisation, from a row of scores. -/
def soft (l : Fin 16 → EReal) (j : Fin 16) : EReal := Ideal.exp (l j - Finset.univ.fold max ⊥ l)
/-- A normalised weight, from a row of scores. -/
def softmax (l : Fin 16 → EReal) (j : Fin 16) : EReal := Ideal.div (soft l j) (∑ k, soft l k)
/-- The exchange's result. -/
def exch (b i : Fin 16) (d : Fin 64) : EReal := ∑ j, softmax (logit D b (head d) i) j * proj D D.av b j d
/-- The exchange's result through the output weights. -/
def aff (w : Fin 64 → Fin 128 → EReal) (v : Fin 128 → EReal) (b i : Fin 16) (c : Fin 128) : EReal :=
  (∑ d, exch D b i d * w d c) + v c
/-- The state after the exchange. -/
def full (b i : Fin 16) (c : Fin 128) : EReal :=
  new D b i c + (sig (aff D D.gw D.gb b i c) * Ideal.tanh (aff D D.fw D.fb b i c) + new D b i c)
/-- The final state. -/
def out (b i : Fin 16) (c : Fin 128) : EReal := mask D b i * full D b i c + (1 - mask D b i) * D.h b i c

end Cert.Proof.Spec

end
-- ==== Proof.CellRead.lean ====
module

public import proofs.«01_k».proof.Proof.Cell
public import proofs.«01_k».proof.Proof.Spec
public import Idealize.ShloMosaic.Lib.Pointwise
public import Idealize.ShloMosaic.Lib.WordCmp

@[expose] public section

set_option maxRecDepth 16384
set_option maxHeartbeats 1000000

noncomputable section

namespace Cert.Proof

open Idealize.ShloMosaic Idealize.ShloMosaic.TcCoe Idealize.ShloMosaic.WordCmp
open Cert.KernelIdeal Cert.KernelIdeal.Gen

/-- The word of one eighth. -/
theorem eighth : Ideal.ofBits .f32 0x3E000000#32 = ((1 / 8 : ℝ) : EReal) := by
  simp [Ideal.ofBits, Ideal.ieee]; rw [← EReal.coe_mul]; norm_num
/-- The word of one quarter. -/
theorem quarter : Ideal.ofBits .f32 0x3E800000#32 = ((1 / 4 : ℝ) : EReal) := by
  simp [Ideal.ofBits, Ideal.ieee]; rw [← EReal.coe_mul]; norm_num
/-- The word of eight. -/
theorem eight : Ideal.ofBits .f32 0x41000000#32 = ((8 : ℝ) : EReal) := by
  simp [Ideal.ofBits, Ideal.ieee]; rw [← EReal.coe_mul]; norm_num
/-- The word of four. -/
theorem four : Ideal.ofBits .f32 0x40800000#32 = ((4 : ℝ) : EReal) := by
  simp [Ideal.ofBits, Ideal.ieee]; rw [← EReal.coe_mul]; norm_num
/-- The word of minus infinity. -/
theorem negInf : Ideal.ofBits .f32 0xFF800000#32 = (⊥ : EReal) := by
  simp [Ideal.ofBits, Ideal.ieee]

/-- A truth value as a number: one if true, zero if false. -/
theorem truth_num (c : BitVec 1) : (FloatOps.sitofp .f32 (BitVec.setWidth 32 c) : Ideal .f32) = if c = 1#1 then (1 : EReal) else 0 := by
  have h : ∀ c : BitVec 1, (BitVec.setWidth 32 c).toInt = if c = 1#1 then 1 else 0 := by decide
  show (((BitVec.setWidth 32 c).toInt : ℝ) : EReal) = _
  rw [h c]; split <;> simp

/-- The real input's key is the input times the key weights. -/
theorem keyV_apply (x : Vec Ideal S16x1024 .f32) (w : Vec Ideal S1x64x1024 .f32) (b : Fin 16) (d : Fin 64) :
    keyV x w (ix2 b d) = ∑ k : Fin 1024, x (ix2 b k) * w (ix3 0 d k) := by
  pointwise [keyV]

/-- The real input's value is the input times the value weights. -/
theorem valV_apply (x : Vec Ideal S16x1024 .f32) (w : Vec Ideal S1x1024x512 .f32) (b : Fin 16) (d : Fin 512) :
    valV x w (ix2 b d) = ∑ k : Fin 1024, x (ix2 b k) * w (ix3 0 k d) := by
  pointwise [valV]

/-- The selecting square array is one on its diagonal and zero off it. -/
theorem eyeV_apply (a b : Fin 16) : eyeV (F := Ideal) (ix2 a b) = if a = b then (1 : EReal) else 0 := by
  pointwise [eyeV]
  rw [truth_num]
  refine if_congr ?_ rfl rfl
  rw [cmpi_eq_ofNat_eq_one_iff (by omega) (by omega), Fin.ext_iff]

/-- A block's score is its query times the real input's key, divided by eight. -/
theorem logitV_apply (k1 : FVec Ideal S16x64 .f32) (h : Vec Ideal S16x128 .f32) (w : Vec Ideal S1x64x128 .f32) (b : Fin 16) :
    logitV k1 h w (ix2 b 0) = (∑ d : Fin 64, (∑ k : Fin 128, h (ix2 b k) * w (ix3 0 d k)) * k1 (ix2 b d)) * ((1 / 8 : ℝ) : EReal) := by
  pointwise [logitV]
  rw [eighth]
  refine congrArg (· * _) ?_
  simp only [eyeV_apply, mul_ite, mul_one, mul_zero, Finset.sum_ite_eq, Finset.mem_univ, if_true]

/-- The weight of the null input before it is normalised. -/
theorem e0V_apply (l : FVec Ideal S16x1 .f32) (b : Fin 16) : e0V l (ix2 b 0) = Spec.w0 (l (ix2 b 0)) := by
  pointwise [e0V, topV]
  rfl

/-- The weight of the real input before it is normalised. -/
theorem e1V_apply (l : FVec Ideal S16x1 .f32) (b : Fin 16) : e1V l (ix2 b 0) = Spec.w1 (l (ix2 b 0)) := by
  pointwise [e1V, topV]
  rfl

/-- The normalised weight of the null input. -/
theorem p0V_apply (l : FVec Ideal S16x1 .f32) (b : Fin 16) :
    p0V l (ix2 b 0) = Ideal.div (Spec.w0 (l (ix2 b 0))) (Spec.w0 (l (ix2 b 0)) + Spec.w1 (l (ix2 b 0))) := by
  pointwise [p0V]
  rw [e0V_apply, e1V_apply]

/-- A block's attended input is the real input's normalised weight times its value. -/
theorem attV_apply (l : FVec Ideal S16x1 .f32) (v : FVec Ideal S16x512 .f32) (b : Fin 16) (o : Fin 512) :
    attV l v (ix2 b o) = Ideal.div (Spec.w1 (l (ix2 b 0))) (Spec.w0 (l (ix2 b 0)) + Spec.w1 (l (ix2 b 0))) * v (ix2 b o) := by
  pointwise [attV]
  rw [e0V_apply, e1V_apply]

/-- A block's input gates, side by side, are its attended input times each gate's weights. -/
theorem giV_apply (x : FVec Ideal S16x512 .f32) (w : Vec Ideal S1x3x128x512 .f32) (b : Fin 16) (r : Fin 384) :
    giV x w (ix2 b r) = ∑ o : Fin 512, x (ix2 b o) * w (ix4 0 ⟨r / 128, by omega⟩ ⟨r % 128, by omega⟩ o) := by
  pointwise [giV]

/-- A block's state gates, side by side, are its old state times each gate's weights. -/
theorem ghV_apply (x : FVec Ideal S16x128 .f32) (w : Vec Ideal S1x3x128x128 .f32) (b : Fin 16) (r : Fin 384) :
    ghV x w (ix2 b r) = ∑ o : Fin 128, x (ix2 b o) * w (ix4 0 ⟨r / 128, by omega⟩ ⟨r % 128, by omega⟩ o) := by
  pointwise [ghV]

/-- A bias is the same in every batch row. -/
theorem biasV_apply (v : Vec Ideal S1x128 .f32) (b : Fin 16) (c : Fin 128) : biasV v (ix2 b c) = v (ix2 0 c) := by
  pointwise [biasV]

/-- The first gate is the first 128 columns plus its bias. -/
theorem gateR_apply (g : FVec Ideal S16x384 .f32) (v : Vec Ideal S1x128 .f32) (b : Fin 16) (c : Fin 128) :
    gateR g v (ix2 b c) = g (ix2 b ⟨c, by omega⟩) + v (ix2 0 c) := by
  pointwise [gateR, biasV]
/-- The second gate is the next 128 columns plus its bias. -/
theorem gateZ_apply (g : FVec Ideal S16x384 .f32) (v : Vec Ideal S1x128 .f32) (b : Fin 16) (c : Fin 128) :
    gateZ g v (ix2 b c) = g (ix2 b ⟨128 + c, by omega⟩) + v (ix2 0 c) := by
  pointwise [gateZ, biasV]
/-- The third gate is the last 128 columns plus its bias. -/
theorem gateN_apply (g : FVec Ideal S16x384 .f32) (v : Vec Ideal S1x128 .f32) (b : Fin 16) (c : Fin 128) :
    gateN g v (ix2 b c) = g (ix2 b ⟨256 + c, by omega⟩) + v (ix2 0 c) := by
  pointwise [gateN, biasV]

/-- The gated update at an entry is the cell's formula on the numbers there. -/
theorem cellV_apply (ir hr iz hz inn hn h : FVec Ideal S16x128 .f32) (b : Fin 16) (c : Fin 128) :
    cellV ir hr iz hz inn hn h (ix2 b c) = Spec.cell (ir (ix2 b c)) (hr (ix2 b c)) (iz (ix2 b c)) (hz (ix2 b c))
      (inn (ix2 b c)) (hn (ix2 b c)) (h (ix2 b c)) := by
  pointwise [cellV, Spec.cell, Spec.sig]
  rfl

/-- Sixteen columns side by side: column `j` is the `j`-th of them. -/
theorem colsV_apply (p : Fin 16 → FVec Ideal S16x1 .f32) (b j : Fin 16) : colsV p (ix2 b j) = p j (ix2 b 0) := by
  refine concatenate_ofFn_unit_apply (t := S16x16) (s₁ := S16x1) 1 p
    concatenates_S16x1_S16x1_S16x1_S16x1_S16x1_S16x1_S16x1_S16x1_S16x1_S16x1_S16x1_S16x1_S16x1_S16x1_S16x1_S16x1_S16x16_d1
    rfl rfl (ix2 b j) j rfl (ix2 b 0) fun c hc => ?_
  fin_cases c
  · rfl
  · exact absurd rfl hc

/-- Sixteen blocks stacked: row `j` is the `j`-th of them. -/
theorem stackV_apply (q : Fin 16 → FVec Ideal S16x64 .f32) (b j : Fin 16) (d : Fin 64) :
    stackV q (ix3 b j d) = q j (ix2 b d) := by
  refine (concatenate_ofFn_unit_apply (t := S16x16x64) (s₁ := S16x1x64) 1 (fun n => rowV (q n))
    concatenates_S16x1x64_S16x1x64_S16x1x64_S16x1x64_S16x1x64_S16x1x64_S16x1x64_S16x1x64_S16x1x64_S16x1x64_S16x1x64_S16x1x64_S16x1x64_S16x1x64_S16x1x64_S16x1x64_S16x16x64_d1
    rfl rfl (ix3 b j d) j rfl (ix3 b 0 d) fun c hc => ?_).trans ?_
  · fin_cases c
    · rfl
    · exact absurd rfl hc
    · rfl
  · pointwise [rowV]

/-- A block's projection is its state times the block's weights. -/
theorem projV_apply (h : FVec Ideal S16x128 .f32) (w : Vec Ideal S1x64x128 .f32) (b : Fin 16) (d : Fin 64) :
    projV h w (ix2 b d) = ∑ k : Fin 128, h (ix2 b k) * w (ix3 0 d k) := by
  pointwise [projV]

/-- A head's scores are its queries times its keys, divided by four. -/
theorem headLogits_apply (q k : FVec Ideal S16x16x16 .f32) (b i j : Fin 16) :
    headLogits q k (ix3 b i j) = (∑ e : Fin 16, q (ix3 b i e) * k (ix3 b j e)) * ((1 / 4 : ℝ) : EReal) := by
  pointwise [headLogits]
  rw [quarter]

/-- A head's weights before they are normalised: exponentials of scores less the row's greatest. -/
theorem headExp_apply (l : FVec Ideal S16x16x16 .f32) (b i j : Fin 16) :
    headExp l (ix3 b i j) = Spec.soft (fun k => l (ix3 b i k)) j := by
  pointwise [headExp, Spec.soft]
  rw [negInf]

/-- A head's weights are each divided by the row's sum. -/
theorem headAttn_apply (l : FVec Ideal S16x16x16 .f32) (b i j : Fin 16) :
    headAttn l (ix3 b i j) = Ideal.div (l (ix3 b i j)) (∑ k : Fin 16, l (ix3 b i k)) := by
  pointwise [headAttn]

/-- A head's result is the values averaged by the softmax of its scores. -/
theorem headV_apply (q k v : FVec Ideal S16x16x16 .f32) (b i e : Fin 16) :
    headV q k v (ix3 b i e) = ∑ j : Fin 16, Spec.softmax (fun j => headLogits q k (ix3 b i j)) j * v (ix3 b j e) := by
  pointwise [headV]
  refine Finset.sum_congr rfl fun j _ => ?_
  rw [headAttn_apply]
  simp only [headExp_apply, Spec.softmax]

/-- A block's row of the exchange's result. -/
theorem blockRow_apply (O : FVec Ideal S16x16x64 .f32) (i : ℕ) (hi : i < 16) (b : Fin 16) (d : Fin 64) :
    blockRow O i hi (ix2 b d) = O (ix3 b ⟨i, hi⟩ d) := by
  pointwise [blockRow]

/-- Weights and a bias applied to a block's row of the exchange's result. -/
theorem affV_apply (o : FVec Ideal S16x64 .f32) (w : Vec Ideal S64x128 .f32) (v : Vec Ideal S128 .f32) (b : Fin 16) (c : Fin 128) :
    affV o w v (ix2 b c) = (∑ d : Fin 64, o (ix2 b d) * w (ix2 d c)) + v (ix1 c) := by
  pointwise [affV]

/-- A block's column of the mask. -/
theorem maskCol_apply (M : FVec Ideal S16x16 .f32) (i : ℕ) (hi : i < 16) (b : Fin 16) :
    maskCol M i hi (ix2 b 0) = M (ix2 b ⟨i, hi⟩) := by
  pointwise [maskCol]

/-- A block's result is the masked mix of the new state with the exchange and the old state. -/
theorem outV_apply (h old : FVec Ideal S16x128 .f32) (mc : FVec Ideal S16x1 .f32) (o : FVec Ideal S16x64 .f32)
    (fw : Vec Ideal S64x128 .f32) (fb : Vec Ideal S128 .f32) (gw : Vec Ideal S64x128 .f32) (gb : Vec Ideal S128 .f32)
    (b : Fin 16) (c : Fin 128) :
    outV h old mc o fw fb gw gb (ix2 b c) =
      mc (ix2 b 0) * (h (ix2 b c) + (Spec.sig (affV o gw gb (ix2 b c)) * Ideal.tanh (affV o fw fb (ix2 b c)) + h (ix2 b c)))
        + (1 - mc (ix2 b 0)) * old (ix2 b c) := by
  pointwise [outV, Spec.sig]
  rfl

/-- The mask's column is repeated over a block's units. -/
theorem maskOut_apply (mc : FVec Ideal S16x1 .f32) (b : Fin 16) (c : Fin 128) : maskOut mc (ix2 b c) = mc (ix2 b 0) := by
  pointwise [maskOut]

/-- One where block `k` goes before block `i`: a greater score, or an equal one at a lower position. -/
theorem beatV_apply (sc : FVec Ideal S16x16 .f32) (k : ℕ) (hk : k < 16) (b i : Fin 16) :
    beatV sc k hk (ix2 b i) = if sc (ix2 b i) < sc (ix2 b ⟨k, hk⟩) ∨ (sc (ix2 b ⟨k, hk⟩) = sc (ix2 b i) ∧ (⟨k, hk⟩ : Fin 16) < i) then (1 : EReal) else 0 := by
  pointwise [beatV]
  rw [truth_num]
  refine if_congr ?_ rfl rfl
  have ho : ∀ a c : BitVec 1, IntOp.ori a c = 1#1 ↔ a = 1#1 ∨ c = 1#1 := by decide
  have ha : ∀ a c : BitVec 1, IntOp.andi a c = 1#1 ↔ a = 1#1 ∧ c = 1#1 := by decide
  rw [ho, ha, cmpi_sgt_ofNat_eq_one_iff (by omega) (by omega), ofBool_eq_one_iff, ofBool_eq_one_iff, decide_eq_true_iff,
    decide_eq_true_iff]
  exact Iff.rfl

/-- The sum over all blocks is the number of blocks that go before block `i`. -/
theorem rankV_apply (sc : FVec Ideal S16x16 .f32) (b i : Fin 16) :
    rankV sc (ix2 b i) = ((Spec.rank (fun k => sc (ix2 b k)) i : ℕ) : EReal) := by
  have h : rankV sc (ix2 b i) = ∑ k : Fin 16, beatV sc k.1 k.2 (ix2 b i) := by
    pointwise [rankV]
    simp only [Fin.sum_univ_castSucc, Finset.univ_eq_empty, Finset.sum_empty, zero_add]
    rfl
  rw [h]
  simp only [beatV_apply]
  rw [Spec.rank, Finset.natCast_card_filter]

/-- The mask is one where at least eight blocks go before, else zero. -/
theorem maskV_apply (sc : FVec Ideal S16x16 .f32) (b i : Fin 16) :
    maskV sc (ix2 b i) = if 8 ≤ Spec.rank (fun k => sc (ix2 b k)) i then (1 : EReal) else 0 := by
  pointwise [maskV]
  rw [truth_num, rankV_apply, eight]
  refine if_congr ?_ rfl rfl
  rw [ofBool_eq_one_iff, decide_eq_true_iff, ← EReal.coe_coe_eq_natCast, EReal.coe_le_coe_iff]
  exact_mod_cast Iff.rfl

/-- A head on its sixteen lanes of the stacked projections is the softmax average over those lanes. -/
theorem head_slice (Q K V : FVec Ideal S16x16x64 .f32) (n : Fin 4) (h : Shape.Slices S16x16x64 ![0, 0, n.1 * 16] S16x16x16)
    (b i e : Fin 16) (d : Fin 64) (hd : d = Spec.lane n e) :
    headV (extractStridedSlice S16x16x16 ![0, 0, n.1 * 16] Q h) (extractStridedSlice S16x16x16 ![0, 0, n.1 * 16] K h)
      (extractStridedSlice S16x16x16 ![0, 0, n.1 * 16] V h) (ix3 b i e) =
      ∑ j : Fin 16, Spec.softmax (fun j => (∑ e : Fin 16, Q (ix3 b i (Spec.lane (Spec.head d) e)) * K (ix3 b j (Spec.lane (Spec.head d) e)))
        * ((1 / 4 : ℝ) : EReal)) j * V (ix3 b j d) := by
  have hh : Spec.head d = n := by subst hd; exact Fin.ext (by simp only [Spec.head, Spec.lane]; omega)
  rw [headV_apply, hh]
  simp only [headLogits_apply]
  subst hd
  pointwise
  rfl

/-- The four heads side by side: each lane is its own head's softmax average. -/
theorem heads4_apply (Q K V : FVec Ideal S16x16x64 .f32) (b i : Fin 16) (d : Fin 64) :
    heads4 Q K V (ix3 b i d) =
      ∑ j : Fin 16, Spec.softmax (fun j => (∑ e : Fin 16, Q (ix3 b i (Spec.lane (Spec.head d) e)) * K (ix3 b j (Spec.lane (Spec.head d) e)))
        * ((1 / 4 : ℝ) : EReal)) j * V (ix3 b j d) := by
  pointwise [heads4]
  split
  · exact head_slice Q K V 0 slices_S16x16x64_o0_0_0_S16x16x16 b i _ d (Fin.ext (by simp only [Spec.lane]; omega))
  split
  · exact head_slice Q K V 1 slices_S16x16x64_o0_0_16_S16x16x16 b i _ d (Fin.ext (by simp only [Spec.lane]; omega))
  split
  · exact head_slice Q K V 2 slices_S16x16x64_o0_0_32_S16x16x16 b i _ d (Fin.ext (by simp only [Spec.lane]; omega))
  · exact head_slice Q K V 3 slices_S16x16x64_o0_0_48_S16x16x16 b i _ d (Fin.ext (by simp only [Spec.lane]; omega))

end Cert.Proof
end
-- ==== Proof.Loads.lean ====
module

public import proofs.«01_k».proof.Proof.CellRead

@[expose] public section

set_option maxRecDepth 16384

noncomputable section

/-! The kernel's two results as functions of what its body loads, and what they are of the cell's numbers. -/

namespace Cert.Proof

open Idealize.ShloMosaic Idealize.ShloMosaic.TcCoe
open Cert.KernelIdeal Cert.KernelIdeal.Gen

/-- The values the body loads, block by block. -/
structure Loads (F : FTy → Type) where
  /-- The input. -/
  x : Vec F S16x1024 .f32
  /-- The weights of the real input's key. -/
  wk : Vec F S1x64x1024 .f32
  /-- The weights of the real input's value. -/
  wv : Vec F S1x1024x512 .f32
  /-- Each block's old state. -/
  old : Fin 16 → Vec F S16x128 .f32
  /-- Each block's query weights. -/
  wq : Fin 16 → Vec F S1x64x128 .f32
  /-- Each block's input weights, the three gates together. -/
  wi : Fin 16 → Vec F S1x3x128x512 .f32
  /-- Each block's state weights, the three gates together. -/
  wh : Fin 16 → Vec F S1x3x128x128 .f32
  /-- Each gate's and block's input biases. -/
  bi : Fin 3 → Fin 16 → Vec F S1x128 .f32
  /-- Each gate's and block's state biases. -/
  bh : Fin 3 → Fin 16 → Vec F S1x128 .f32
  /-- Each block's weights of the exchange's query. -/
  aq : Fin 16 → Vec F S1x64x128 .f32
  /-- Each block's weights of the exchange's key. -/
  ak : Fin 16 → Vec F S1x64x128 .f32
  /-- Each block's weights of the exchange's value. -/
  av : Fin 16 → Vec F S1x64x128 .f32
  /-- The exchange's output weights. -/
  fw : Vec F S64x128 .f32
  /-- The exchange's output biases. -/
  fb : Vec F S128 .f32
  /-- The weights of the exchange's gate. -/
  gw : Vec F S64x128 .f32
  /-- The biases of the exchange's gate. -/
  gb : Vec F S128 .f32

namespace Loads

section
variable {F : FTy → Type} [FloatOps F] (L : Loads F)

/-- A block's score against the real input. -/
def logit (j : Fin 16) : FVec F S16x1 .f32 := logitV (keyV L.x L.wk) (L.old j) (L.wq j)
/-- A block's new state. -/
def new (j : Fin 16) : FVec F S16x128 .f32 :=
  newV (attV (L.logit j) (valV L.x L.wv)) (L.old j) (L.wi j) (L.wh j) (L.bi 0 j) (L.bi 1 j) (L.bi 2 j) (L.bh 0 j) (L.bh 1 j) (L.bh 2 j)
/-- The mask, a column per block. -/
def mask : FVec F S16x16 .f32 := maskV (colsV fun j => p0V (L.logit j))
/-- The exchange's result, a row per block. -/
def exch : FVec F S16x16x64 .f32 :=
  heads4 (stackV fun j => projV (L.new j) (L.aq j)) (stackV fun j => projV (L.new j) (L.ak j)) (stackV fun j => projV (L.new j) (L.av j))
/-- A block of the first result. -/
def out (j : Fin 16) : FVec F S16x128 .f32 :=
  outV (L.new j) (L.old j) (maskCol L.mask j j.isLt) (blockRow L.exch j j.isLt) L.fw L.fb L.gw L.gb
/-- A block of the second result. -/
def outMask (j : Fin 16) : FVec F S16x128 .f32 := maskOut (maskCol L.mask j j.isLt)
end

/-- What is loaded is the cell's numbers. -/
structure Reads (L : Loads Ideal) (D : Spec.Data) : Prop where
  /-- The input. -/
  x : ∀ b k, L.x (ix2 b k) = D.x b k
  /-- The real input's key weights. -/
  wk : ∀ d k, L.wk (ix3 0 d k) = D.wk d k
  /-- The real input's value weights. -/
  wv : ∀ k o, L.wv (ix3 0 k o) = D.wv k o
  /-- Each block's old state. -/
  old : ∀ j b c, L.old j (ix2 b c) = D.h b j c
  /-- Each block's query weights. -/
  wq : ∀ j d k, L.wq j (ix3 0 d k) = D.wq j d k
  /-- Each block's input weights. -/
  wi : ∀ j g c o, L.wi j (ix4 0 g c o) = D.wi j g c o
  /-- Each block's state weights. -/
  wh : ∀ j g c k, L.wh j (ix4 0 g c k) = D.wh j g c k
  /-- The input biases. -/
  bi : ∀ g j c, L.bi g j (ix2 0 c) = D.bi j g c
  /-- The state biases. -/
  bh : ∀ g j c, L.bh g j (ix2 0 c) = D.bh j g c
  /-- The exchange's query weights. -/
  aq : ∀ j d k, L.aq j (ix3 0 d k) = D.aq j d k
  /-- The exchange's key weights. -/
  ak : ∀ j d k, L.ak j (ix3 0 d k) = D.ak j d k
  /-- The exchange's value weights. -/
  av : ∀ j d k, L.av j (ix3 0 d k) = D.av j d k
  /-- The exchange's output weights. -/
  fw : ∀ d c, L.fw (ix2 d c) = D.fw d c
  /-- The exchange's output biases. -/
  fb : ∀ c, L.fb (ix1 c) = D.fb c
  /-- The weights of the exchange's gate. -/
  gw : ∀ d c, L.gw (ix2 d c) = D.gw d c
  /-- The biases of the exchange's gate. -/
  gb : ∀ c, L.gb (ix1 c) = D.gb c

variable {L : Loads Ideal} {D : Spec.Data} (R : Reads L D)

include R

/-- A block's score. -/
theorem logit_apply (j b : Fin 16) : L.logit j (ix2 b 0) = Spec.score D b j := by
  unfold logit Spec.score Spec.que Spec.key
  rw [logitV_apply]
  simp only [keyV_apply, R.old, R.wq, R.x, R.wk]

/-- The real input's value. -/
theorem val_apply (b : Fin 16) (o : Fin 512) : valV L.x L.wv (ix2 b o) = Spec.val D b o := by
  rw [valV_apply]; unfold Spec.val; simp only [R.x, R.wv]

/-- A block's attended input. -/
theorem att_apply (j b : Fin 16) (o : Fin 512) : attV (L.logit j) (valV L.x L.wv) (ix2 b o) = Spec.att D b j o := by
  rw [attV_apply, logit_apply R, val_apply R]; rfl

/-- A block's input gates before their biases, side by side. -/
theorem gi_apply (j b : Fin 16) (g : Fin 3) (c : Fin 128) (r : Fin 384) (hr : r.1 = 128 * g + c) :
    giV (attV (L.logit j) (valV L.x L.wv)) (L.wi j) (ix2 b r) = ∑ o, Spec.att D b j o * D.wi j g c o := by
  rw [giV_apply]
  refine Finset.sum_congr rfl fun o _ => ?_
  rw [att_apply R, show (⟨r / 128, by omega⟩ : Fin 3) = g from Fin.ext (by show r.1 / 128 = g.1; omega),
    show (⟨r % 128, by omega⟩ : Fin 128) = c from Fin.ext (by show r.1 % 128 = c.1; omega), R.wi]

/-- A block's state gates before their biases, side by side. -/
theorem gh_apply (j b : Fin 16) (g : Fin 3) (c : Fin 128) (r : Fin 384) (hr : r.1 = 128 * g + c) :
    ghV (L.old j) (L.wh j) (ix2 b r) = ∑ k, D.h b j k * D.wh j g c k := by
  rw [ghV_apply]
  refine Finset.sum_congr rfl fun o _ => ?_
  rw [R.old, show (⟨r / 128, by omega⟩ : Fin 3) = g from Fin.ext (by show r.1 / 128 = g.1; omega),
    show (⟨r % 128, by omega⟩ : Fin 128) = c from Fin.ext (by show r.1 % 128 = c.1; omega), R.wh]

/-- A block's new state. -/
theorem new_apply (j b : Fin 16) (c : Fin 128) : L.new j (ix2 b c) = Spec.new D b j c := by
  unfold new newV
  rw [cellV_apply, gateR_apply, gateR_apply, gateZ_apply, gateZ_apply, gateN_apply, gateN_apply,
    gi_apply R j b 0 c _ (by show c.1 = 128 * 0 + c.1; omega), gh_apply R j b 0 c _ (by show c.1 = 128 * 0 + c.1; omega),
    gi_apply R j b 1 c _ (by show 128 + c.1 = 128 * 1 + c.1; omega), gh_apply R j b 1 c _ (by show 128 + c.1 = 128 * 1 + c.1; omega),
    gi_apply R j b 2 c _ (by show 256 + c.1 = 128 * 2 + c.1; omega), gh_apply R j b 2 c _ (by show 256 + c.1 = 128 * 2 + c.1; omega)]
  simp only [R.bi, R.bh, R.old]
  rfl

/-- The mask. -/
theorem mask_apply (b j : Fin 16) : L.mask (ix2 b j) = Spec.mask D b j := by
  unfold mask
  rw [maskV_apply]
  unfold Spec.mask
  simp only [colsV_apply, p0V_apply, logit_apply R]
  rfl

/-- A block's projections by weights of its own. -/
theorem proj_apply {w : Fin 16 → Vec Ideal S1x64x128 .f32} {u : Fin 16 → Fin 64 → Fin 128 → EReal}
    (hw : ∀ j d k, w j (ix3 0 d k) = u j d k) (b j : Fin 16) (d : Fin 64) :
    stackV (fun j => projV (L.new j) (w j)) (ix3 b j d) = Spec.proj D u b j d := by
  rw [stackV_apply, projV_apply]
  unfold Spec.proj
  simp only [new_apply R, hw]

/-- The exchange's result. -/
theorem exch_apply (b i : Fin 16) (d : Fin 64) : L.exch (ix3 b i d) = Spec.exch D b i d := by
  unfold exch
  rw [heads4_apply]
  simp only [proj_apply R R.aq, proj_apply R R.ak, proj_apply R R.av]
  rfl

/-- The exchange's result through weights and biases. -/
theorem aff_apply {w : Vec Ideal S64x128 .f32} {v : Vec Ideal S128 .f32} {w' : Fin 64 → Fin 128 → EReal} {v' : Fin 128 → EReal}
    (hw : ∀ d c, w (ix2 d c) = w' d c) (hv : ∀ c, v (ix1 c) = v' c) (j b : Fin 16) (c : Fin 128) :
    affV (blockRow L.exch j j.isLt) w v (ix2 b c) = Spec.aff D w' v' b j c := by
  rw [affV_apply]
  simp only [blockRow_apply, exch_apply R, hw, hv]
  rfl

/-- A block of the first result. -/
theorem out_apply (j b : Fin 16) (c : Fin 128) : L.out j (ix2 b c) = Spec.out D b j c := by
  unfold out
  rw [outV_apply, maskCol_apply, mask_apply R, new_apply R, aff_apply R R.fw R.fb, aff_apply R R.gw R.gb, R.old]
  rfl

/-- A block of the second result. -/
theorem outMask_apply (j b : Fin 16) (c : Fin 128) : L.outMask j (ix2 b c) = Spec.mask D b j := by
  unfold outMask
  rw [maskOut_apply, maskCol_apply, mask_apply R]

end Loads

end Cert.Proof

end
-- ==== Proof.Loaded.lean ====
module

public import proofs.«01_k».proof.Proof.BodyRun
public import proofs.«01_k».proof.Proof.Loads
public import Idealize.ShloMosaic.Lib.WholeRead
public import Idealize.ShloMosaic.Lib.VecWindow
public import Idealize.ShloMosaic.Lib.ValueLayout

@[expose] public section

set_option maxRecDepth 16384

noncomputable section

/-! What the body loads, block by block: the parts of its buffers, and each part read at an index. -/

namespace Cert.Proof

open Idealize.ShloMosaic Idealize.ShloMosaic.TcCoe
open Cert.KernelIdeal Cert.KernelIdeal.Gen

variable {F : FTy → Type} [FloatOps F]

/-- A block's columns lie inside the state. -/
theorem inCols (j : Fin 16) (a : Fin 2) : (![0, 128 * j.1] : Fin 2 → ℕ) a + S16x128.size a ≤ S16x2048.size a := by
  fin_cases a
  · exact Nat.le_of_eq (Nat.zero_add _)
  · show 128 * j.1 + 128 ≤ 2048; omega

/-- A block's projection weights lie inside the blocks' together. -/
theorem inProj (j : Fin 16) (a : Fin 3) : (![j.1, 0, 0] : Fin 3 → ℕ) a + S1x64x128.size a ≤ S16x64x128.size a := by
  fin_cases a
  · show j.1 + 1 ≤ 16; omega
  all_goals exact Nat.le_of_eq (Nat.zero_add _)

/-- A bias row lies inside the bias rows. -/
theorem inBias (g : Fin 3) (j : Fin 16) (a : Fin 2) : (![16 * g.1 + j.1, 0] : Fin 2 → ℕ) a + S1x128.size a ≤ S48x128.size a := by
  fin_cases a
  · show 16 * g.1 + j.1 + 1 ≤ 48; omega
  · exact Nat.le_of_eq (Nat.zero_add _)

/-- A block's input weights lie inside the weight array. -/
theorem inWi (j : Fin 16) (a : Fin 3) : (![0, 128 * j.1, 512 * j.1] : Fin 3 → ℕ) a + S3x128x512.size a ≤ S3x2048x8192.size a := by
  fin_cases a
  · exact Nat.le_of_eq (Nat.zero_add _)
  · show 128 * j.1 + 128 ≤ 2048; omega
  · show 512 * j.1 + 512 ≤ 8192; omega

/-- A block's state weights lie inside the weight array. -/
theorem inWh (j : Fin 16) (a : Fin 3) : (![0, 128 * j.1, 128 * j.1] : Fin 3 → ℕ) a + S3x128x128.size a ≤ S3x2048x2048.size a := by
  fin_cases a
  · exact Nat.le_of_eq (Nat.zero_add _)
  · show 128 * j.1 + 128 ≤ 2048; omega
  · show 128 * j.1 + 128 ≤ 2048; omega

/-- The block of columns a result's piece covers. -/
abbrev colRect (j : Fin 16) : Rect S16x2048 := Rect.unit (s := S16x2048) ![0, 128 * j.1] S16x128.size (inCols j)

/-- Block `j` of the state, loaded. -/
def loadOld (M : Memref sig .tc .vmem S16x2048 .f32) (h : M.IsWhole) (x : Vec F S16x2048 .f32) (j : Fin 16) : Vec F S16x128 .f32 :=
  View.readAt (Elt F) M.view (colRect j).toLoadRect (h.unread x)
/-- Block `j`'s projection weights, loaded. -/
def loadProj (M : Memref sig .tc .vmem S16x64x128 .f32) (h : M.IsWhole) (x : Vec F S16x64x128 .f32) (j : Fin 16) : Vec F S1x64x128 .f32 :=
  View.readAt (Elt F) M.view (Rect.unit (s := S16x64x128) ![j.1, 0, 0] S1x64x128.size (inProj j)).toLoadRect (h.unread x)
/-- A bias row, loaded. -/
def loadBias (M : Memref sig .tc .vmem S48x128 .f32) (h : M.IsWhole) (x : Vec F S48x128 .f32) (g : Fin 3) (j : Fin 16) : Vec F S1x128 .f32 :=
  View.readAt (Elt F) M.view (Rect.unit (s := S48x128) ![16 * g.1 + j.1, 0] S1x128.size (inBias g j)).toLoadRect (h.unread x)
/-- Block `j`'s input weights, loaded from the slot they were copied to. -/
def loadWi (c : Dev nD) (M : Memref sig .tc .vmem S16x3x128x512 .f32) (f : HbBuf (F := F) c (Memref.whole main_v0)) (j : Fin 16) : Vec F S1x3x128x512 .f32 :=
  View.readAt (Elt F) M.view (Rect.unit (s := S16x3x128x512) ![j.1, 0, 0, 0] S1x3x128x512.size (inbI j.1 j.2)).toLoadRect
    ((slotI M j.1 j.2).view.writes (Elt F) (slotI M j.1 j.2).view.junk
      [⟨Rect.whole S3x128x512, ReadAs.same.apply (View.read (Elt F)
        ((Memref.whole main_v0).slice (Rect.unit (s := S3x2048x8192) ![0, 128 * j.1, 512 * j.1] S3x128x512.size (inWi j)) (fun _ => rfl)).view f)⟩])
/-- Block `j`'s state weights, loaded from the slot they were copied to. -/
def loadWh (c : Dev nD) (M : Memref sig .tc .vmem S16x3x128x128 .f32) (f : HbBuf (F := F) c (Memref.whole main_v1)) (j : Fin 16) : Vec F S1x3x128x128 .f32 :=
  View.readAt (Elt F) M.view (Rect.unit (s := S16x3x128x128) ![j.1, 0, 0, 0] S1x3x128x128.size (inbH j.1 j.2)).toLoadRect
    ((slotH M j.1 j.2).view.writes (Elt F) (slotH M j.1 j.2).view.junk
      [⟨Rect.whole S3x128x128, ReadAs.same.apply (View.read (Elt F)
        ((Memref.whole main_v1).slice (Rect.unit (s := S3x2048x2048) ![0, 128 * j.1, 128 * j.1] S3x128x128.size (inWh j)) (fun _ => rfl)).view f)⟩])
/-- Block `j`'s weights of the exchange, loaded from the buffer they were copied to whole. -/
def loadCopied (M : Memref sig .tc .vmem S16x64x128 .f32) (x : Vec F S16x64x128 .f32) (j : Fin 16) : Vec F S1x64x128 .f32 :=
  M.view.readCov [⟨Rect.whole S16x64x128, x⟩] (Rect.unit (s := S16x64x128) ![j.1, 0, 0] S1x64x128.size (inProj j)).toLoadRect
/-- An array in main memory, as a whole transfer reads it. -/
def sent (M : Memref sig .tc .hbm S16x64x128 .f32) (f : M.view.ty.Contents (Elt F)) : Vec F S16x64x128 .f32 :=
  ReadAs.same.apply (View.read (Elt F) (M.slice (Rect.unit (s := S16x64x128) ![0, 0, 0] S16x64x128.size (by decide)) (fun _ => rfl)).view f)
/-- A buffer loaded whole. -/
def loadAll {s : Shape} (M : Memref sig .tc .vmem s .f32) (h : M.IsWhole) (x : Vec F s .f32) (o : Fin s.rank → ℕ)
    (ho : ∀ a, o a + s.size a ≤ s.size a) : Vec F s .f32 :=
  View.readAt (Elt F) M.view (Rect.unit (s := s) o s.size ho).toLoadRect (h.unread x)

section
variable (c : Dev nD) (i : grid0.Coords)
    (arg1 : Memref sig .tc .vmem S16x1024 .f32) (harg1 : arg1.IsWhole) (arg2 : Memref sig .tc .vmem S16x2048 .f32) (harg2 : arg2.IsWhole) (arg3 : Memref sig .tc .vmem S16x64x128 .f32) (harg3 : arg3.IsWhole) (arg4 : Memref sig .tc .vmem S1x64x1024 .f32) (harg4 : arg4.IsWhole) (arg5 : Memref sig .tc .vmem S1x1024x512 .f32) (harg5 : arg5.IsWhole) (arg9 : Memref sig .tc .vmem S64x128 .f32) (harg9 : arg9.IsWhole) (arg10 : Memref sig .tc .vmem S128 .f32) (harg10 : arg10.IsWhole) (arg11 : Memref sig .tc .vmem S64x128 .f32) (harg11 : arg11.IsWhole) (arg12 : Memref sig .tc .vmem S128 .f32) (harg12 : arg12.IsWhole) (arg15 : Memref sig .tc .vmem S48x128 .f32) (harg15 : arg15.IsWhole) (arg16 : Memref sig .tc .vmem S48x128 .f32) (harg16 : arg16.IsWhole)
    (arg17 : Memref sig .tc .vmem S16x2048 .f32) (harg17 : arg17.IsWhole) (arg18 : Memref sig .tc .vmem S16x2048 .f32) (harg18 : arg18.IsWhole)
    (arg19 : Memref sig .tc .vmem S16x3x128x512 .f32) (harg19 : arg19.IsWhole) (arg20 : Memref sig .tc .vmem S16x3x128x128 .f32) (harg20 : arg20.IsWhole) (arg21 : Memref sig .tc .vmem S16x64x128 .f32) (harg21 : arg21.IsWhole) (arg22 : Memref sig .tc .vmem S16x64x128 .f32) (harg22 : arg22.IsWhole) (arg23 : Memref sig .tc .vmem S16x64x128 .f32) (harg23 : arg23.IsWhole)
    (x0 : Vec F S16x1024 .f32) (x1 : Vec F S16x2048 .f32) (x2 : Vec F S16x64x128 .f32) (x3 : Vec F S1x64x1024 .f32) (x4 : Vec F S1x1024x512 .f32) (x5 : Vec F S64x128 .f32) (x6 : Vec F S128 .f32) (x7 : Vec F S64x128 .f32) (x8 : Vec F S128 .f32) (x9 : Vec F S48x128 .f32) (x10 : Vec F S48x128 .f32)
    (fh0 : HbBuf (F := F) c (Memref.whole main_v4)) (fh1 : HbBuf (F := F) c (Memref.whole main_v5)) (fh2 : HbBuf (F := F) c (Memref.whole main_v6)) (fh3 : HbBuf (F := F) c (Memref.whole main_v0)) (fh4 : HbBuf (F := F) c (Memref.whole main_v1))

/-- Everything the body loads. -/
def loads : Loads F where
  x := loadAll arg1 harg1 x0 ![0, 0] (by decide)
  wk := loadAll arg4 harg4 x3 ![0, 0, 0] (by decide)
  wv := loadAll arg5 harg5 x4 ![0, 0, 0] (by decide)
  old := loadOld arg2 harg2 x1
  wq := loadProj arg3 harg3 x2
  wi := loadWi c arg19 fh3
  wh := loadWh c arg20 fh4
  bi := loadBias arg15 harg15 x9
  bh := loadBias arg16 harg16 x10
  aq := loadCopied arg21 (sent (Memref.whole main_v4) fh0)
  ak := loadCopied arg22 (sent (Memref.whole main_v5) fh1)
  av := loadCopied arg23 (sent (Memref.whole main_v6) fh2)
  fw := loadAll arg9 harg9 x5 ![0, 0] (by decide)
  fb := loadAll arg10 harg10 x6 ![0] (by decide)
  gw := loadAll arg11 harg11 x7 ![0, 0] (by decide)
  gb := loadAll arg12 harg12 x8 ![0] (by decide)

end

/-! ## Each part read at an index -/

/-- A vector read at two indices of equal coordinates. -/
theorem at_eq {s : Shape} {α : Type} (x : s.Idx → α) {i k : s.Idx} (h : ∀ a, (i a).val = (k a).val) : x i = x k :=
  congrArg x (funext fun a => Fin.ext (h a))

/-- Column `c` of block `j` of the state. -/
theorem loadOld_apply (M : Memref sig .tc .vmem S16x2048 .f32) (h : M.IsWhole) (x : Vec F S16x2048 .f32) (j b : Fin 16) (c : Fin 128) :
    loadOld M h x j (ix2 b c) = x (ix2 b ⟨128 * j.1 + c.1, by omega⟩) :=
  (Memref.IsWhole.readAt_unread h x _ _).trans (at_eq x fun a => by
    fin_cases a
    · show 0 + 1 * b.1 = b.1; omega
    · show 128 * j.1 + 1 * c.1 = 128 * j.1 + c.1; omega)
/-- Block `j`'s part of an array of the blocks' projection weights. -/
theorem proj_idx (x : Vec F S16x64x128 .f32) (j : Fin 16) (d : Fin 64) (k : Fin 128) :
    x ((Rect.unit (s := S16x64x128) ![j.1, 0, 0] S1x64x128.size (inProj j)).toLoadRect.idx (ix3 0 d k)) = x (ix3 j d k) :=
  at_eq x fun a => by
    fin_cases a
    · show j.1 + 1 * 0 = j.1; omega
    · show 0 + 1 * d.1 = d.1; omega
    · show 0 + 1 * k.1 = k.1; omega
/-- An entry of block `j`'s projection weights. -/
theorem loadProj_apply (M : Memref sig .tc .vmem S16x64x128 .f32) (h : M.IsWhole) (x : Vec F S16x64x128 .f32) (j : Fin 16)
    (d : Fin 64) (k : Fin 128) : loadProj M h x j (ix3 0 d k) = x (ix3 j d k) :=
  (Memref.IsWhole.readAt_unread h x _ _).trans (proj_idx x j d k)
/-- An entry of a bias row. -/
theorem loadBias_apply (M : Memref sig .tc .vmem S48x128 .f32) (h : M.IsWhole) (x : Vec F S48x128 .f32) (g : Fin 3) (j : Fin 16)
    (c : Fin 128) : loadBias M h x g j (ix2 0 c) = x (ix2 ⟨16 * g.1 + j.1, by omega⟩ c) :=
  (Memref.IsWhole.readAt_unread h x _ _).trans (at_eq x fun a => by
    fin_cases a
    · show 16 * g.1 + j.1 + 1 * 0 = 16 * g.1 + j.1; omega
    · show 0 + 1 * c.1 = c.1; omega)
/-- A slot of the input weights read after its transfer is what was sent. -/
theorem loadWi_apply (c : Dev nD) (M : Memref sig .tc .vmem S16x3x128x512 .f32) (f : HbBuf (F := F) c (Memref.whole main_v0)) (j : Fin 16)
    (g : Fin 3) (r : Fin 128) (o : Fin 512) : loadWi c M f j (ix4 0 g r o)
      = (f : Vec F S3x2048x8192 .f32) (ix3 g ⟨128 * j.1 + r.1, by omega⟩ ⟨512 * j.1 + o.1, by omega⟩) := by
  refine Eq.trans (congrArg (loadWi c M f j) (ValueIdx.reshapeEquiv_ix3_1abc (a := 3) (b := 128) (c := 512) rfl g r o).symm) ?_
  refine (View.read_writes_cons_hit (Val := Elt F) (slotI M j.1 j.2).view (slotI M j.1 j.2).view.junk (Rect.whole S3x128x512)
    (ReadAs.same.apply (View.read (Elt F)
        ((Memref.whole main_v0).slice (Rect.unit (s := S3x2048x8192) ![0, 128 * j.1, 512 * j.1] S3x128x512.size (inWi j)) (fun _ => rfl)).view f))
    [] (ix3 g r o) (ix3 g r o) (Rect.emb_whole_apply _ _)).trans ?_
  exact at_eq (s := S3x2048x8192) f fun a => by
    fin_cases a
    · show 0 + 1 * g.1 = g.1; omega
    · show 128 * j.1 + 1 * r.1 = 128 * j.1 + r.1; omega
    · show 512 * j.1 + 1 * o.1 = 512 * j.1 + o.1; omega
/-- A slot of the state weights read after its transfer is what was sent. -/
theorem loadWh_apply (c : Dev nD) (M : Memref sig .tc .vmem S16x3x128x128 .f32) (f : HbBuf (F := F) c (Memref.whole main_v1)) (j : Fin 16)
    (g : Fin 3) (r o : Fin 128) : loadWh c M f j (ix4 0 g r o)
      = (f : Vec F S3x2048x2048 .f32) (ix3 g ⟨128 * j.1 + r.1, by omega⟩ ⟨128 * j.1 + o.1, by omega⟩) := by
  refine Eq.trans (congrArg (loadWh c M f j) (ValueIdx.reshapeEquiv_ix3_1abc (a := 3) (b := 128) (c := 128) rfl g r o).symm) ?_
  refine (View.read_writes_cons_hit (Val := Elt F) (slotH M j.1 j.2).view (slotH M j.1 j.2).view.junk (Rect.whole S3x128x128)
    (ReadAs.same.apply (View.read (Elt F)
        ((Memref.whole main_v1).slice (Rect.unit (s := S3x2048x2048) ![0, 128 * j.1, 128 * j.1] S3x128x128.size (inWh j)) (fun _ => rfl)).view f))
    [] (ix3 g r o) (ix3 g r o) (Rect.emb_whole_apply _ _)).trans ?_
  exact at_eq (s := S3x2048x2048) f fun a => by
    fin_cases a
    · show 0 + 1 * g.1 = g.1; omega
    · show 128 * j.1 + 1 * r.1 = 128 * j.1 + r.1; omega
    · show 128 * j.1 + 1 * o.1 = 128 * j.1 + o.1; omega
/-- A block of an array copied whole. -/
theorem loadCopied_apply (M : Memref sig .tc .vmem S16x64x128 .f32) (x : Vec F S16x64x128 .f32) (j : Fin 16)
    (d : Fin 64) (k : Fin 128) : loadCopied M x j (ix3 0 d k) = x (ix3 j d k) :=
  (View.read_writes_cons_hit (Val := Elt F) M.view M.view.junk (Rect.whole S16x64x128) x []
    ((Rect.unit (s := S16x64x128) ![j.1, 0, 0] S1x64x128.size (inProj j)).toLoadRect.idx (ix3 0 d k)) _ (Rect.emb_whole_apply _ _)).trans
    (proj_idx x j d k)
/-- A whole transfer's offset adds nothing. -/
theorem sent_idx (j : Fin 16) (d : Fin 64) (k : Fin 128) (x : Vec F S16x64x128 .f32) :
    x ((Rect.unit (s := S16x64x128) ![0, 0, 0] S16x64x128.size (by decide)).emb (ix3 j d k)) = x (ix3 j d k) :=
  at_eq x fun a => by
    fin_cases a
    · show 0 + 1 * j.1 = j.1; omega
    · show 0 + 1 * d.1 = d.1; omega
    · show 0 + 1 * k.1 = k.1; omega
/-- A buffer loaded whole. -/
theorem loadAll_eq {s : Shape} (M : Memref sig .tc .vmem s .f32) (h : M.IsWhole) (x : Vec F s .f32) (o : Fin s.rank → ℕ)
    (ho : ∀ a, o a + s.size a ≤ s.size a) : loadAll M h x o ho = x := by
  unfold loadAll; rw [View.readAt_full]; exact Memref.IsWhole.read_unread h x

end Cert.Proof

end
-- ==== Proof.LaunchRead.lean ====
module

public import proofs.«01_k».proof.Proof.Frame
public import proofs.«01_k».proof.Proof.Loaded
public import Idealize.ShloMosaic.Lib.StableHlo.Run
public import Idealize.ShloMosaic.Lib.Pointwise

@[expose] public section

set_option maxRecDepth 16384

noncomputable section

/-! The arrays the kernel's call finds, from the arguments: each prepared array is a reshape or transpose of one. -/

namespace Cert.Proof

open Idealize.ShloMosaic Idealize.ShloMosaic.TcCoe
open Cert.KernelIdeal Cert.KernelIdeal.Gen

/-- Rows gathered in groups: an entry of the grouped array is the entry of its row. -/
theorem grouped {n a b c : ℕ} {α : Type} (x : (⟨2, ![n, c]⟩ : Shape).Idx → α) (h : (⟨2, ![n, c]⟩ : Shape).ShapeCasts ⟨3, ![a, b, c]⟩)
    (g : Fin a) (r : Fin b) (o : Fin c) (i : Fin n) (hi : i.val = b * g + r) :
    shapeCast ⟨3, ![a, b, c]⟩ x h (ix3 g r o) = x (ix2 i o) :=
  congrArg x (Shape.reshapeEquiv_eq_of_rowMajor h (by
    rw [Shape.rowMajor_val_two, Shape.rowMajor_val_three]
    show i.val * c + o.val = (g.val * b + r.val) * c + o.val
    rw [hi, Nat.mul_comm b]))
/-- A list cut in rows: an entry of the rows is the list's at its place. -/
theorem cut {n a b : ℕ} {α : Type} (x : (⟨1, ![n]⟩ : Shape).Idx → α) (h : (⟨1, ![n]⟩ : Shape).ShapeCasts ⟨2, ![a, b]⟩)
    (g : Fin a) (r : Fin b) (i : Fin n) (hi : i.val = b * g + r) :
    shapeCast ⟨2, ![a, b]⟩ x h (ix2 g r) = x (ix1 i) :=
  congrArg x (Shape.reshapeEquiv_eq_of_rowMajor h (by
    rw [Shape.rowMajor_val_one, Shape.rowMajor_val_two]
    show i.val = g.val * b + r.val
    rw [hi, Nat.mul_comm b]))

variable (m : (ℓ : Loc nD τ sig) → Buf (Elt Ideal) ℓ) (c : Dev nD)

/-- The gates' input weights, a gate at a time. -/
theorem V_v0 (g : Fin 3) (r : Fin 2048) (o : Fin 8192) : (V m c main_v0 : FVec Ideal S3x2048x8192 .f32) (ix3 g r o)
    = (m (c, main_arg12) : FVec Ideal S6144x8192 .f32) (ix2 ⟨2048 * g + r, by omega⟩ o) := by
  have h : (V m c main_v0 : FVec Ideal S3x2048x8192 .f32) = shapeCast S3x2048x8192 (m (c, main_arg12) : FVec Ideal S6144x8192 .f32) shapeCasts_S6144x8192_S3x2048x8192 := by
    show StableHlo.after hostOps0 _ _ = _
    unfold hostOps0; after_results; rfl
  exact (congrFun h _).trans (grouped _ _ g r o _ rfl)
/-- The gates' state weights, a gate at a time. -/
theorem V_v1 (g : Fin 3) (r o : Fin 2048) : (V m c main_v1 : FVec Ideal S3x2048x2048 .f32) (ix3 g r o)
    = (m (c, main_arg13) : FVec Ideal S6144x2048 .f32) (ix2 ⟨2048 * g + r, by omega⟩ o) := by
  have h : (V m c main_v1 : FVec Ideal S3x2048x2048 .f32) = shapeCast S3x2048x2048 (m (c, main_arg13) : FVec Ideal S6144x2048 .f32) shapeCasts_S6144x2048_S3x2048x2048 := by
    show StableHlo.after hostOps0 _ _ = _
    unfold hostOps0; after_results; rfl
  exact (congrFun h _).trans (grouped _ _ g r o _ rfl)
/-- The gates' input biases, in rows. -/
theorem V_v7 (g : Fin 48) (r : Fin 128) : (V m c main_v7 : FVec Ideal S48x128 .f32) (ix2 g r)
    = (m (c, main_arg14) : FVec Ideal S6144 .f32) (ix1 ⟨128 * g + r, by omega⟩) := by
  have h : (V m c main_v7 : FVec Ideal S48x128 .f32) = shapeCast S48x128 (m (c, main_arg14) : FVec Ideal S6144 .f32) shapeCasts_S6144_S48x128 := by
    show StableHlo.after hostOps0 _ _ = _
    unfold hostOps0; after_results; rfl
  exact (congrFun h _).trans (cut _ _ g r _ rfl)
/-- The gates' state biases, in rows. -/
theorem V_v8 (g : Fin 48) (r : Fin 128) : (V m c main_v8 : FVec Ideal S48x128 .f32) (ix2 g r)
    = (m (c, main_arg15) : FVec Ideal S6144 .f32) (ix1 ⟨128 * g + r, by omega⟩) := by
  have h : (V m c main_v8 : FVec Ideal S48x128 .f32) = shapeCast S48x128 (m (c, main_arg15) : FVec Ideal S6144 .f32) shapeCasts_S6144_S48x128 := by
    show StableHlo.after hostOps0 _ _ = _
    unfold hostOps0; after_results; rfl
  exact (congrFun h _).trans (cut _ _ g r _ rfl)
/-- An array of the blocks' projection weights, transposed. -/
theorem proj_T (x : FVec Ideal S16x128x64 .f32) (j : Fin 16) (d : Fin 64) (k : Fin 128) :
    transpose S16x64x128 [0, 2, 1] x transposes_S16x128x64_S16x64x128_0_2_1 (ix3 j d k) = x (ix3 j k d) := by
  pointwise []
/-- The blocks' query weights, transposed. -/
theorem V_v2 (j : Fin 16) (d : Fin 64) (k : Fin 128) : (V m c main_v2 : FVec Ideal S16x64x128 .f32) (ix3 j d k)
    = (m (c, main_arg2) : FVec Ideal S16x128x64 .f32) (ix3 j k d) := by
  have h : (V m c main_v2 : FVec Ideal S16x64x128 .f32) = transpose S16x64x128 [0, 2, 1] (m (c, main_arg2) : FVec Ideal S16x128x64 .f32) transposes_S16x128x64_S16x64x128_0_2_1 := by
    show StableHlo.after hostOps0 _ _ = _
    unfold hostOps0; after_results
  exact (congrFun h _).trans (proj_T _ j d k)
/-- The exchange's query weights, transposed. -/
theorem V_v4 (j : Fin 16) (d : Fin 64) (k : Fin 128) : (V m c main_v4 : FVec Ideal S16x64x128 .f32) (ix3 j d k)
    = (m (c, main_arg5) : FVec Ideal S16x128x64 .f32) (ix3 j k d) := by
  have h : (V m c main_v4 : FVec Ideal S16x64x128 .f32) = transpose S16x64x128 [0, 2, 1] (m (c, main_arg5) : FVec Ideal S16x128x64 .f32) transposes_S16x128x64_S16x64x128_0_2_1 := by
    show StableHlo.after hostOps0 _ _ = _
    unfold hostOps0; after_results
  exact (congrFun h _).trans (proj_T _ j d k)
/-- The exchange's key weights, transposed. -/
theorem V_v5 (j : Fin 16) (d : Fin 64) (k : Fin 128) : (V m c main_v5 : FVec Ideal S16x64x128 .f32) (ix3 j d k)
    = (m (c, main_arg6) : FVec Ideal S16x128x64 .f32) (ix3 j k d) := by
  have h : (V m c main_v5 : FVec Ideal S16x64x128 .f32) = transpose S16x64x128 [0, 2, 1] (m (c, main_arg6) : FVec Ideal S16x128x64 .f32) transposes_S16x128x64_S16x64x128_0_2_1 := by
    show StableHlo.after hostOps0 _ _ = _
    unfold hostOps0; after_results
  exact (congrFun h _).trans (proj_T _ j d k)
/-- The exchange's value weights, transposed. -/
theorem V_v6 (j : Fin 16) (d : Fin 64) (k : Fin 128) : (V m c main_v6 : FVec Ideal S16x64x128 .f32) (ix3 j d k)
    = (m (c, main_arg7) : FVec Ideal S16x128x64 .f32) (ix3 j k d) := by
  have h : (V m c main_v6 : FVec Ideal S16x64x128 .f32) = transpose S16x64x128 [0, 2, 1] (m (c, main_arg7) : FVec Ideal S16x128x64 .f32) transposes_S16x128x64_S16x64x128_0_2_1 := by
    show StableHlo.after hostOps0 _ _ = _
    unfold hostOps0; after_results
  exact (congrFun h _).trans (proj_T _ j d k)
/-- The inputs' key weights, transposed. -/
theorem V_v3 (n : Fin 2) (d : Fin 64) (k : Fin 1024) : (V m c main_v3 : FVec Ideal S2x64x1024 .f32) (ix3 n d k)
    = (m (c, main_arg3) : FVec Ideal S2x1024x64 .f32) (ix3 n k d) := by
  have h : (V m c main_v3 : FVec Ideal S2x64x1024 .f32) = transpose S2x64x1024 [0, 2, 1] (m (c, main_arg3) : FVec Ideal S2x1024x64 .f32) transposes_S2x1024x64_S2x64x1024_0_2_1 := by
    show StableHlo.after hostOps0 _ _ = _
    unfold hostOps0; after_results
  refine (congrFun h _).trans ?_
  pointwise []

variable (t : Fin cfg0.N)

/-- The input's block is the input. -/
theorem blk_0 : (iblk m c 0 t : FVec Ideal S16x1024 .f32) = V m c main_arg0 :=
  funext fun i => at_eq (s := S16x1024) (V m c main_arg0) fun a => by
    fin_cases a
    all_goals exact (Nat.zero_add _).trans (Nat.one_mul _)
/-- The state's block is the state. -/
theorem blk_1 : (iblk m c 1 t : FVec Ideal S16x2048 .f32) = V m c main_arg1 :=
  funext fun i => at_eq (s := S16x2048) (V m c main_arg1) fun a => by
    fin_cases a
    all_goals exact (Nat.zero_add _).trans (Nat.one_mul _)
/-- The query weights' block is the transposed array. -/
theorem blk_2 : (iblk m c 2 t : FVec Ideal S16x64x128 .f32) = V m c main_v2 :=
  funext fun i => at_eq (s := S16x64x128) (V m c main_v2) fun a => by
    fin_cases a
    all_goals exact (Nat.zero_add _).trans (Nat.one_mul _)
/-- The projection's block is the array. -/
theorem blk_5 : (iblk m c 5 t : FVec Ideal S64x128 .f32) = V m c main_arg8 :=
  funext fun i => at_eq (s := S64x128) (V m c main_arg8) fun a => by
    fin_cases a
    all_goals exact (Nat.zero_add _).trans (Nat.one_mul _)
/-- The projection's bias block is the array. -/
theorem blk_6 : (iblk m c 6 t : FVec Ideal S128 .f32) = V m c main_arg9 :=
  funext fun i => at_eq (s := S128) (V m c main_arg9) fun a => by
    fin_cases a
    all_goals exact (Nat.zero_add _).trans (Nat.one_mul _)
/-- The gate's block is the array. -/
theorem blk_7 : (iblk m c 7 t : FVec Ideal S64x128 .f32) = V m c main_arg10 :=
  funext fun i => at_eq (s := S64x128) (V m c main_arg10) fun a => by
    fin_cases a
    all_goals exact (Nat.zero_add _).trans (Nat.one_mul _)
/-- The gate's bias block is the array. -/
theorem blk_8 : (iblk m c 8 t : FVec Ideal S128 .f32) = V m c main_arg11 :=
  funext fun i => at_eq (s := S128) (V m c main_arg11) fun a => by
    fin_cases a
    all_goals exact (Nat.zero_add _).trans (Nat.one_mul _)
/-- The input biases' block is the array in rows. -/
theorem blk_9 : (iblk m c 9 t : FVec Ideal S48x128 .f32) = V m c main_v7 :=
  funext fun i => at_eq (s := S48x128) (V m c main_v7) fun a => by
    fin_cases a
    all_goals exact (Nat.zero_add _).trans (Nat.one_mul _)
/-- The state biases' block is the array in rows. -/
theorem blk_10 : (iblk m c 10 t : FVec Ideal S48x128 .f32) = V m c main_v8 :=
  funext fun i => at_eq (s := S48x128) (V m c main_v8) fun a => by
    fin_cases a
    all_goals exact (Nat.zero_add _).trans (Nat.one_mul _)
/-- The key weights' block is the second of the two inputs' weights. -/
theorem blk_3 (d : Fin 64) (k : Fin 1024) : (iblk m c 3 t : FVec Ideal S1x64x1024 .f32) (ix3 0 d k) = (V m c main_v3 : FVec Ideal S2x64x1024 .f32) (ix3 1 d k) :=
  at_eq (s := S2x64x1024) (V m c main_v3) fun a => by
    fin_cases a
    · rfl
    all_goals exact (Nat.zero_add _).trans (Nat.one_mul _)
/-- The value weights' block is the second of the two inputs' weights. -/
theorem blk_4 (k : Fin 1024) (o : Fin 512) : (iblk m c 4 t : FVec Ideal S1x1024x512 .f32) (ix3 0 k o) = (V m c main_arg4 : FVec Ideal S2x1024x512 .f32) (ix3 1 k o) :=
  at_eq (s := S2x1024x512) (V m c main_arg4) fun a => by
    fin_cases a
    · rfl
    all_goals exact (Nat.zero_add _).trans (Nat.one_mul _)

end Cert.Proof

end
-- ==== Proof.RefRead.lean ====
module

public import proofs.«01_k».proof.Proof.Gen.ReferenceIdeal.Read
public import proofs.«01_k».proof.Proof.Spec
public import Idealize.ShloMosaic.Lib.Pointwise

@[expose] public section

set_option maxRecDepth 16384
set_option maxHeartbeats 1000000

noncomputable section

/-! The reference read at an index: each of its stages is the cell's mathematics at that entry. -/

namespace Cert.Proof.Ref

open Idealize.ShloMosaic Idealize.ShloMosaic.TcCoe
open Cert.ReferenceIdeal Cert.ReferenceIdeal.Gen Cert.ReferenceIdeal.Read

/-- Unit `c` of block `j`. -/
def unit (j : Fin 16) (c : Fin 128) : Fin 2048 := ⟨j * 128 + c, by omega⟩
/-- The weight row of gate `g` of unit `c` of block `j`. -/
def row (j : Fin 16) (g : Fin 3) (c : Fin 128) : Fin 6144 := ⟨2048 * g + (j * 128 + c), by omega⟩
/-- The weight column of entry `o` of block `j`'s attended input. -/
def col (j : Fin 16) (o : Fin 512) : Fin 8192 := ⟨j * 512 + o, by omega⟩

/-- The sixteen float arguments. -/
structure Args where
  /-- The input and the old state. -/
  x0 : FVec Ideal S16x1024 .f32
  x1 : FVec Ideal S16x2048 .f32
  /-- The weights of the blocks' queries, of the inputs' keys and of their values. -/
  x2 : FVec Ideal S16x128x64 .f32
  x3 : FVec Ideal S2x1024x64 .f32
  x4 : FVec Ideal S2x1024x512 .f32
  /-- The exchange's weights. -/
  x5 : FVec Ideal S16x128x64 .f32
  x6 : FVec Ideal S16x128x64 .f32
  x7 : FVec Ideal S16x128x64 .f32
  x8 : FVec Ideal S64x128 .f32
  x9 : FVec Ideal S128 .f32
  x10 : FVec Ideal S64x128 .f32
  x11 : FVec Ideal S128 .f32
  /-- The gates' weights and biases. -/
  x12 : FVec Ideal S6144x8192 .f32
  x13 : FVec Ideal S6144x2048 .f32
  x14 : FVec Ideal S6144 .f32
  x15 : FVec Ideal S6144 .f32

variable (A : Args)

/-- The cell's numbers, from the arguments. -/
def Args.data : Spec.Data where
  x b k := A.x0 (ix2 b k)
  h b j c := A.x1 (ix2 b (unit j c))
  wk d k := A.x3 (ix3 1 k d)
  wv k o := A.x4 (ix3 1 k o)
  wq j d k := A.x2 (ix3 j k d)
  wi j g c o := A.x12 (ix2 (row j g c) (col j o))
  wh j g c k := A.x13 (ix2 (row j g c) (unit j k))
  bi j g c := A.x14 (ix1 (row j g c))
  bh j g c := A.x15 (ix1 (row j g c))
  aq j d k := A.x5 (ix3 j k d)
  ak j d k := A.x6 (ix3 j k d)
  av j d k := A.x7 (ix3 j k d)
  fw d c := A.x8 (ix2 d c)
  fb c := A.x9 (ix1 c)
  gw d c := A.x10 (ix2 d c)
  gb c := A.x11 (ix1 c)

/-- The first of the two inputs is the null input, zero. -/
theorem v5_0 (b : Fin 16) (k : Fin 1024) : val_main_v5 (F := Ideal) A.x0 (ix3 b 0 k) = (0 : EReal) := by
  pointwise [val_main_v5, val_main_v4, val_main_cst]
/-- The second of the two inputs is the real input. -/
theorem v5_1 (b : Fin 16) (k : Fin 1024) : val_main_v5 (F := Ideal) A.x0 (ix3 b 1 k) = A.x0 (ix2 b k) := by
  pointwise [val_main_v5, val_main_v3, val_main_v2, val_main_v1, val_main_v0]

/-- A block's query. -/
theorem v8_apply (b j : Fin 16) (d : Fin 64) : val_main_v8 (F := Ideal) A.x1 A.x2 (ix3 b j d) = Spec.que A.data b j d := by
  pointwise [val_main_v8, val_main_v7, val_main_v6, Spec.que, Args.data]
  exact Finset.sum_congr rfl fun k _ => mul_comm _ _

/-- The null input's key is zero. -/
theorem v10_0 (b : Fin 16) (d : Fin 64) : val_main_v10 (F := Ideal) A.x0 A.x3 (ix3 b 0 d) = (0 : EReal) := by
  pointwise [val_main_v10, val_main_v9]
  simp only [v5_0 A, mul_zero, Finset.sum_const_zero]
/-- The real input's key. -/
theorem v10_1 (b : Fin 16) (d : Fin 64) : val_main_v10 (F := Ideal) A.x0 A.x3 (ix3 b 1 d) = Spec.key A.data b d := by
  pointwise [val_main_v10, val_main_v9]
  simp only [v5_1 A]
  exact Finset.sum_congr rfl fun k _ => mul_comm _ _
/-- The null input's value is zero. -/
theorem v12_0 (b : Fin 16) (d : Fin 512) : val_main_v12 (F := Ideal) A.x0 A.x4 (ix3 b 0 d) = (0 : EReal) := by
  pointwise [val_main_v12, val_main_v11]
  simp only [v5_0 A, mul_zero, Finset.sum_const_zero]
/-- The real input's value. -/
theorem v12_1 (b : Fin 16) (d : Fin 512) : val_main_v12 (F := Ideal) A.x0 A.x4 (ix3 b 1 d) = Spec.val A.data b d := by
  pointwise [val_main_v12, val_main_v11]
  simp only [v5_1 A]
  exact Finset.sum_congr rfl fun k _ => mul_comm _ _

/-- The word of eight. -/
theorem eight : Ideal.ofBits .f32 0x41000000#32 = ((8 : ℝ) : EReal) := by
  simp [Ideal.ofBits, Ideal.ieee]; rw [← EReal.coe_mul]; norm_num
/-- The word of four. -/
theorem four : Ideal.ofBits .f32 0x40800000#32 = ((4 : ℝ) : EReal) := by
  simp [Ideal.ofBits, Ideal.ieee]; rw [← EReal.coe_mul]; norm_num
/-- The word of minus infinity. -/
theorem negInf : Ideal.ofBits .f32 0xFF800000#32 = (⊥ : EReal) := by
  simp [Ideal.ofBits, Ideal.ieee]

/-- A block's score against the null input is zero. -/
theorem v15_0 (b j : Fin 16) : val_main_v15 (F := Ideal) A.x0 A.x1 A.x2 A.x3 (ix3 b j 0) = (0 : EReal) := by
  pointwise [val_main_v15, val_main_v13, val_main_v14, val_main_cst_0]
  simp only [v10_0 A, mul_zero, Finset.sum_const_zero, eight, Ideal.div_coe (show (8 : ℝ) ≠ 0 by norm_num), zero_mul]
/-- A block's score against the real input. -/
theorem v15_1 (b j : Fin 16) : val_main_v15 (F := Ideal) A.x0 A.x1 A.x2 A.x3 (ix3 b j 1) = Spec.score A.data b j := by
  pointwise [val_main_v15, val_main_v13, val_main_v14, val_main_cst_0]
  simp only [v10_1 A, v8_apply A,
    eight, Ideal.div_coe (show (8 : ℝ) ≠ 0 by norm_num)]
  rfl

/-- The greater of a block's two scores. -/
theorem v18_apply (b j : Fin 16) : val_main_v18 (F := Ideal) A.x0 A.x1 A.x2 A.x3 (ix2 b j) = max (Spec.score A.data b j) 0 := by
  pointwise [val_main_v18, val_main_v17, val_main_v16, val_main_cst_1, val_main_cst_2]
  have hu : (Finset.univ : Finset (Fin 2)) = {0, 1} := by decide
  rw [hu, Finset.fold_insert (by decide), Finset.fold_singleton, v15_0 A, v15_1 A, negInf]
  simp only [bot_le, max_eq_right, max_eq_left]
  exact max_comm _ _

/-- The weight of the null input before it is normalised. -/
theorem v22_0 (b j : Fin 16) : val_main_v22 (F := Ideal) A.x0 A.x1 A.x2 A.x3 (ix3 b j 0) = Spec.w0 (Spec.score A.data b j) := by
  pointwise [val_main_v22, val_main_v21, val_main_v20, val_main_v19]
  rw [v15_0 A, v18_apply A]
  rfl
/-- The weight of the real input before it is normalised. -/
theorem v22_1 (b j : Fin 16) : val_main_v22 (F := Ideal) A.x0 A.x1 A.x2 A.x3 (ix3 b j 1) = Spec.w1 (Spec.score A.data b j) := by
  pointwise [val_main_v22, val_main_v21, val_main_v20, val_main_v19]
  rw [v15_1 A, v18_apply A]
  rfl
/-- The normalised weight of the null input. -/
theorem v26_0 (b j : Fin 16) : val_main_v26 (F := Ideal) A.x0 A.x1 A.x2 A.x3 (ix3 b j 0) = Spec.null A.data b j := by
  pointwise [val_main_v26, val_main_v25, val_main_v24, val_main_v23, val_main_cst_3]
  rw [Fin.sum_univ_two, v22_0 A, v22_1 A]
  rfl
/-- The normalised weight of the real input. -/
theorem v26_1 (b j : Fin 16) : val_main_v26 (F := Ideal) A.x0 A.x1 A.x2 A.x3 (ix3 b j 1) =
    Ideal.div (Spec.w1 (Spec.score A.data b j)) (Spec.w0 (Spec.score A.data b j) + Spec.w1 (Spec.score A.data b j)) := by
  pointwise [val_main_v26, val_main_v25, val_main_v24, val_main_v23, val_main_cst_3]
  rw [Fin.sum_univ_two, v22_0 A, v22_1 A]
/-- A block's attended input. -/
theorem v27_apply (b j : Fin 16) (o : Fin 512) : val_main_v27 (F := Ideal) A.x0 A.x1 A.x2 A.x3 A.x4 (ix3 b j o) = Spec.att A.data b j o := by
  pointwise [val_main_v27]
  rw [Fin.sum_univ_two, v12_0 A, v12_1 A, v26_1 A, mul_zero, zero_add]
  rfl
/-- The numbers that the blocks are sorted by are the null input's weights. -/
theorem v30_apply (b j : Fin 16) : val_main_v30 (F := Ideal) A.x0 A.x1 A.x2 A.x3 (ix2 b j) = Spec.null A.data b j := by
  pointwise [val_main_v30, val_main_v29]
  exact v26_0 A b j

/-- Every input weight outside a gate row's own block is zero. -/
def BlockI : Prop := ∀ (j j' : Fin 16) (g : Fin 3) (c : Fin 128) (o : Fin 512), j ≠ j' → A.x12 (ix2 (row j g c) (col j' o)) = (0 : EReal)
/-- Every state weight outside a gate row's own block is zero. -/
def BlockH : Prop := ∀ (j j' : Fin 16) (g : Fin 3) (c k : Fin 128), j ≠ j' → A.x13 (ix2 (row j g c) (unit j' k)) = (0 : EReal)

/-- A sum over all columns, block by block. -/
theorem sum_col (f : Fin 8192 → EReal) : ∑ k, f k = ∑ j : Fin 16, ∑ o : Fin 512, f (col j o) := by
  rw [← Fintype.sum_prod_type']
  refine (Equiv.sum_comp (finProdFinEquiv (m := 16) (n := 512)) f).symm.trans (Finset.sum_congr rfl fun p _ => ?_)
  exact congrArg f (Fin.ext (by simp [finProdFinEquiv, col]; omega))
/-- A sum over all units, block by block. -/
theorem sum_unit (f : Fin 2048 → EReal) : ∑ k, f k = ∑ j : Fin 16, ∑ o : Fin 128, f (unit j o) := by
  rw [← Fintype.sum_prod_type']
  refine (Equiv.sum_comp (finProdFinEquiv (m := 16) (n := 128)) f).symm.trans (Finset.sum_congr rfl fun p _ => ?_)
  exact congrArg f (Fin.ext (by simp [finProdFinEquiv, unit]; omega))

/-- A block's input gate: with weights zero off the diagonal blocks, only its own attended input counts. -/
theorem v60_apply (hI : BlockI A) (b j : Fin 16) (g : Fin 3) (c : Fin 128) :
    val_main_v60 (F := Ideal) A.x0 A.x1 A.x2 A.x3 A.x4 A.x12 A.x14 (ix2 b (row j g c)) = Spec.gi A.data b j g c := by
  pointwise [val_main_v60, val_main_v57, val_main_v56, val_main_v59, val_main_v58, val_main_v28]
  refine congrArg (· + _) ?_
  rw [sum_col]
  have hc : ∀ (j : Fin 16) (o : Fin 512) (h₁ : (col j o).1 / 512 < 16) (h₂ : (col j o).1 % 512 < 512),
      val_main_v27 (F := Ideal) A.x0 A.x1 A.x2 A.x3 A.x4 (ix3 b ⟨(col j o).1 / 512, h₁⟩ ⟨(col j o).1 % 512, h₂⟩) = Spec.att A.data b j o := by
    intro j o h₁ h₂
    rw [← v27_apply A]
    exact congrArg _ (congrArg₂ (ix3 b) (Fin.ext (by simp only [col]; omega)) (Fin.ext (by simp only [col]; omega)))
  simp only [hc]
  refine (Finset.sum_eq_single j (fun j' _ hj => ?_) (fun h => absurd (Finset.mem_univ _) h)).trans rfl
  exact Finset.sum_eq_zero fun o _ => by rw [hI j j' g c o hj.symm, mul_zero]
/-- A block's state gate: with weights zero off the diagonal blocks, only its own old state counts. -/
theorem v65_apply (hH : BlockH A) (b j : Fin 16) (g : Fin 3) (c : Fin 128) :
    val_main_v65 (F := Ideal) A.x1 A.x13 A.x15 (ix2 b (row j g c)) = Spec.gh A.data b j g c := by
  pointwise [val_main_v65, val_main_v62, val_main_v61, val_main_v64, val_main_v63]
  refine congrArg (· + _) ?_
  rw [sum_unit]
  refine (Finset.sum_eq_single j (fun j' _ hj => ?_) (fun h => absurd (Finset.mem_univ _) h)).trans rfl
  exact Finset.sum_eq_zero fun o _ => by rw [hH j j' g c o hj.symm, mul_zero]

/-- The new state, at a unit of a block. -/
theorem v93_apply (hI : BlockI A) (hH : BlockH A) (b j : Fin 16) (c : Fin 128) :
    val_main_v93 (F := Ideal) A.x0 A.x1 A.x2 A.x3 A.x4 A.x12 A.x13 A.x14 A.x15 (ix2 b (unit j c)) = Spec.new A.data b j c := by
  pointwise [val_main_v93, val_main_v92, val_main_v91, val_main_v90, val_main_v89, val_main_v88, val_main_v87, val_main_v86, val_main_v85,
    val_main_v84, val_main_v83, val_main_v82, val_main_v81, val_main_v80, val_main_v79, val_main_v78, val_main_v77, val_main_v76, val_main_v75,
    val_main_v74, val_main_v73, val_main_v72, val_main_v71, val_main_v70, val_main_v69, val_main_v68, val_main_v67, val_main_v66,
    val_main_cst_10, val_main_cst_11, val_main_cst_12, val_main_cst_13, val_main_cst_14]
  have h0 : ∀ h, (⟨(unit j c).1, h⟩ : Fin 6144) = row j 0 c := fun _ => Fin.ext (by simp [unit, row])
  have h1 : ∀ h, (⟨2048 + (unit j c).1, h⟩ : Fin 6144) = row j 1 c := fun _ => Fin.ext (by simp [unit, row])
  have h2 : ∀ h, (⟨4096 + (unit j c).1, h⟩ : Fin 6144) = row j 2 c := fun _ => Fin.ext (by simp [unit, row])
  simp only [h0, h1, h2, v60_apply A hI, v65_apply A hH]
  rfl

/-- The new state, block by block. -/
theorem v94_apply (hI : BlockI A) (hH : BlockH A) (b j : Fin 16) (c : Fin 128) :
    val_main_v94 (F := Ideal) A.x0 A.x1 A.x2 A.x3 A.x4 A.x12 A.x13 A.x14 A.x15 (ix3 b j c) = Spec.new A.data b j c := by
  pointwise [val_main_v94]
  exact v93_apply A hI hH b j c

/-- The exchange's queries, head by head. -/
theorem v98_apply (hI : BlockI A) (hH : BlockH A) (b j : Fin 16) (n : Fin 4) (e : Fin 16) :
    val_main_v98 (F := Ideal) A.x0 A.x1 A.x2 A.x3 A.x4 A.x5 A.x12 A.x13 A.x14 A.x15 (ix4 b n j e)
      = Spec.proj A.data A.data.aq b j (Spec.lane n e) := by
  pointwise [val_main_v98, val_main_v97, val_main_v96, val_main_v95]
  simp only [v94_apply A hI hH]
  exact Finset.sum_congr rfl fun k _ => mul_comm _ _
/-- The exchange's keys, head by head. -/
theorem v102_apply (hI : BlockI A) (hH : BlockH A) (b j : Fin 16) (n : Fin 4) (e : Fin 16) :
    val_main_v102 (F := Ideal) A.x0 A.x1 A.x2 A.x3 A.x4 A.x6 A.x12 A.x13 A.x14 A.x15 (ix4 b n j e)
      = Spec.proj A.data A.data.ak b j (Spec.lane n e) := by
  pointwise [val_main_v102, val_main_v101, val_main_v100, val_main_v99]
  simp only [v94_apply A hI hH]
  exact Finset.sum_congr rfl fun k _ => mul_comm _ _
/-- The exchange's values, head by head. -/
theorem v106_apply (hI : BlockI A) (hH : BlockH A) (b j : Fin 16) (n : Fin 4) (e : Fin 16) :
    val_main_v106 (F := Ideal) A.x0 A.x1 A.x2 A.x3 A.x4 A.x7 A.x12 A.x13 A.x14 A.x15 (ix4 b n j e)
      = Spec.proj A.data A.data.av b j (Spec.lane n e) := by
  pointwise [val_main_v106, val_main_v105, val_main_v104, val_main_v103]
  simp only [v94_apply A hI hH]
  exact Finset.sum_congr rfl fun k _ => mul_comm _ _

/-- The exchange's scores. -/
theorem v109_apply (hI : BlockI A) (hH : BlockH A) (b i j : Fin 16) (n : Fin 4) :
    val_main_v109 (F := Ideal) A.x0 A.x1 A.x2 A.x3 A.x4 A.x5 A.x6 A.x12 A.x13 A.x14 A.x15 (ix4 b n i j) = Spec.logit A.data b n i j := by
  pointwise [val_main_v109, val_main_v108, val_main_v107, val_main_cst_15]
  simp only [v98_apply A hI hH, v102_apply A hI hH, four, Ideal.div_coe (show (4 : ℝ) ≠ 0 by norm_num)]
  rfl

/-- The exchange's weights before they are normalised. -/
theorem v116_apply (hI : BlockI A) (hH : BlockH A) (b i j : Fin 16) (n : Fin 4) :
    val_main_v116 (F := Ideal) A.x0 A.x1 A.x2 A.x3 A.x4 A.x5 A.x6 A.x12 A.x13 A.x14 A.x15 (ix4 b n i j)
      = Spec.soft (Spec.logit A.data b n i) j := by
  pointwise [val_main_v116, val_main_v115, val_main_v114, val_main_v113, val_main_v112, val_main_v111, val_main_v110, val_main_cst_16,
    val_main_cst_17]
  simp only [v109_apply A hI hH, negInf]
  rw [max_eq_right bot_le]
  rfl

/-- The exchange's normalised weights. -/
theorem v120_apply (hI : BlockI A) (hH : BlockH A) (b i j : Fin 16) (n : Fin 4) :
    val_main_v120 (F := Ideal) A.x0 A.x1 A.x2 A.x3 A.x4 A.x5 A.x6 A.x12 A.x13 A.x14 A.x15 (ix4 b n i j)
      = Spec.softmax (Spec.logit A.data b n i) j := by
  pointwise [val_main_v120, val_main_v119, val_main_v118, val_main_v117, val_main_cst_18]
  simp only [v116_apply A hI hH]
  rfl

/-- The exchange's result, the four heads side by side. -/
theorem v123_apply (hI : BlockI A) (hH : BlockH A) (b i : Fin 16) (d : Fin 64) :
    val_main_v123 (F := Ideal) A.x0 A.x1 A.x2 A.x3 A.x4 A.x5 A.x6 A.x7 A.x12 A.x13 A.x14 A.x15 (ix3 b i d) = Spec.exch A.data b i d := by
  pointwise [val_main_v123, val_main_v122, val_main_v121]
  simp only [v120_apply A hI hH, v106_apply A hI hH]
  have hd : ∀ h h', Spec.lane ⟨d.1 / 16, h⟩ ⟨d.1 % 16, h'⟩ = d := fun _ _ => Fin.ext (by simp only [Spec.lane]; omega)
  simp only [hd]
  rfl

/-- The exchange's result through the output weights and biases. -/
theorem v127_apply (hI : BlockI A) (hH : BlockH A) (b i : Fin 16) (c : Fin 128) :
    val_main_v127 (F := Ideal) A.x0 A.x1 A.x2 A.x3 A.x4 A.x5 A.x6 A.x7 A.x8 A.x9 A.x12 A.x13 A.x14 A.x15 (ix3 b i c)
      = Spec.aff A.data A.data.fw A.data.fb b i c := by
  pointwise [val_main_v127, val_main_v126, val_main_v125, val_main_v124]
  simp only [v123_apply A hI hH]
  rfl
/-- The exchange's result through the gate's weights and biases. -/
theorem v131_apply (hI : BlockI A) (hH : BlockH A) (b i : Fin 16) (c : Fin 128) :
    val_main_v131 (F := Ideal) A.x0 A.x1 A.x2 A.x3 A.x4 A.x5 A.x6 A.x7 A.x10 A.x11 A.x12 A.x13 A.x14 A.x15 (ix3 b i c)
      = Spec.aff A.data A.data.gw A.data.gb b i c := by
  pointwise [val_main_v131, val_main_v130, val_main_v129, val_main_v128]
  simp only [v123_apply A hI hH]
  rfl

/-- A block's new state with the gated exchange added. -/
theorem v141_apply (hI : BlockI A) (hH : BlockH A) (b i : Fin 16) (c : Fin 128) :
    val_main_v141 (F := Ideal) A.x0 A.x1 A.x2 A.x3 A.x4 A.x5 A.x6 A.x7 A.x8 A.x9 A.x10 A.x11 A.x12 A.x13 A.x14 A.x15 (ix3 b i c)
      = Spec.full A.data b i c := by
  pointwise [val_main_v141, val_main_v140, val_main_v139, val_main_v138, val_main_v137, val_main_v136, val_main_v135, val_main_v134,
    val_main_v133, val_main_v132, val_main_cst_19, val_main_cst_20]
  simp only [v127_apply A hI hH, v131_apply A hI hH, v94_apply A hI hH]
  rfl

/-- The second result: the mask, repeated over each block's units. -/
theorem v53_mask (hm : ∀ b j : Fin 16, val_main_v49 (F := Ideal) A.x0 A.x1 A.x2 A.x3 (ix2 b j) = Spec.mask A.data b j)
    (b j : Fin 16) (c : Fin 128) :
    val_main_v53 (F := Ideal) A.x0 A.x1 A.x2 A.x3 (ix2 b (unit j c)) = Spec.mask A.data b j := by
  pointwise [val_main_v53, val_main_v52, val_main_v51, val_main_v50]
  rw [← hm]
  exact congrArg (fun j => val_main_v49 (F := Ideal) A.x0 A.x1 A.x2 A.x3 (ix2 b j)) (Fin.ext (by simp only [unit]; omega))

/-- The first result: the masked mix of the updated and the old state. -/
theorem v147_apply (hI : BlockI A) (hH : BlockH A)
    (hm : ∀ b j : Fin 16, val_main_v49 (F := Ideal) A.x0 A.x1 A.x2 A.x3 (ix2 b j) = Spec.mask A.data b j)
    (b j : Fin 16) (c : Fin 128) :
    val_main_v147 (F := Ideal) A.x0 A.x1 A.x2 A.x3 A.x4 A.x5 A.x6 A.x7 A.x8 A.x9 A.x10 A.x11 A.x12 A.x13 A.x14 A.x15 (ix2 b (unit j c))
      = Spec.out A.data b j c := by
  pointwise [val_main_v147, val_main_v146, val_main_v145, val_main_v144, val_main_v143, val_main_v142, val_main_v55, val_main_v54,
    val_main_cst_9, val_main_cst_21]
  simp only [v53_mask A hm]
  have hj : ∀ h h', ix3 b ⟨(unit j c).1 / 128, h⟩ ⟨(unit j c).1 % 128, h'⟩ = (ix3 b j c : S16x16x128.Idx) := fun _ _ =>
    congrArg₂ (ix3 b) (Fin.ext (by simp only [unit]; omega)) (Fin.ext (by simp only [unit]; omega))
  rw [hj, v141_apply A hI hH]
  rfl

end Cert.Proof.Ref
end
-- ==== Proof.KernelLoads.lean ====
module

public import proofs.«01_k».proof.Proof.LaunchRead
public import proofs.«01_k».proof.Proof.RefRead

@[expose] public section

set_option maxRecDepth 16384

noncomputable section

/-! What the body loads is the cell's numbers: every part it reads comes from the arguments. -/

namespace Cert.Proof

open Idealize.ShloMosaic Idealize.ShloMosaic.TcCoe
open Cert.KernelIdeal Cert.KernelIdeal.Gen

section
variable (c : Dev nD) (i : grid0.Coords)
    (arg1 : Memref sig .tc .vmem S16x1024 .f32) (harg1 : arg1.IsWhole) (arg2 : Memref sig .tc .vmem S16x2048 .f32) (harg2 : arg2.IsWhole) (arg3 : Memref sig .tc .vmem S16x64x128 .f32) (harg3 : arg3.IsWhole) (arg4 : Memref sig .tc .vmem S1x64x1024 .f32) (harg4 : arg4.IsWhole) (arg5 : Memref sig .tc .vmem S1x1024x512 .f32) (harg5 : arg5.IsWhole) (arg9 : Memref sig .tc .vmem S64x128 .f32) (harg9 : arg9.IsWhole) (arg10 : Memref sig .tc .vmem S128 .f32) (harg10 : arg10.IsWhole) (arg11 : Memref sig .tc .vmem S64x128 .f32) (harg11 : arg11.IsWhole) (arg12 : Memref sig .tc .vmem S128 .f32) (harg12 : arg12.IsWhole) (arg15 : Memref sig .tc .vmem S48x128 .f32) (harg15 : arg15.IsWhole) (arg16 : Memref sig .tc .vmem S48x128 .f32) (harg16 : arg16.IsWhole)
    (arg17 : Memref sig .tc .vmem S16x2048 .f32) (harg17 : arg17.IsWhole) (arg18 : Memref sig .tc .vmem S16x2048 .f32) (harg18 : arg18.IsWhole)
    (arg19 : Memref sig .tc .vmem S16x3x128x512 .f32) (harg19 : arg19.IsWhole) (arg20 : Memref sig .tc .vmem S16x3x128x128 .f32) (harg20 : arg20.IsWhole) (arg21 : Memref sig .tc .vmem S16x64x128 .f32) (harg21 : arg21.IsWhole) (arg22 : Memref sig .tc .vmem S16x64x128 .f32) (harg22 : arg22.IsWhole) (arg23 : Memref sig .tc .vmem S16x64x128 .f32) (harg23 : arg23.IsWhole)
    (x0 : Vec Ideal S16x1024 .f32) (x1 : Vec Ideal S16x2048 .f32) (x2 : Vec Ideal S16x64x128 .f32) (x3 : Vec Ideal S1x64x1024 .f32) (x4 : Vec Ideal S1x1024x512 .f32) (x5 : Vec Ideal S64x128 .f32) (x6 : Vec Ideal S128 .f32) (x7 : Vec Ideal S64x128 .f32) (x8 : Vec Ideal S128 .f32) (x9 : Vec Ideal S48x128 .f32) (x10 : Vec Ideal S48x128 .f32)
    (fh0 : HbBuf (F := Ideal) c (Memref.whole main_v4)) (fh1 : HbBuf (F := Ideal) c (Memref.whole main_v5)) (fh2 : HbBuf (F := Ideal) c (Memref.whole main_v6)) (fh3 : HbBuf (F := Ideal) c (Memref.whole main_v0)) (fh4 : HbBuf (F := Ideal) c (Memref.whole main_v1))

set_option maxHeartbeats 4000000 in
/-- What the body loads is the cell's numbers, when its buffers and the copied arrays hold them. -/
theorem reads_of (D : Spec.Data)
    (hx : ∀ b k, x0 (ix2 b k) = D.x b k)
    (hwk : ∀ d k, x3 (ix3 0 d k) = D.wk d k)
    (hwv : ∀ k o, x4 (ix3 0 k o) = D.wv k o)
    (hh : ∀ (j b : Fin 16) (r : Fin 128), x1 (ix2 b ⟨128 * j.1 + r.1, by omega⟩) = D.h b j r)
    (hwq : ∀ j d k, x2 (ix3 j d k) = D.wq j d k)
    (hwi : ∀ (j : Fin 16) (g : Fin 3) (r : Fin 128) (o : Fin 512),
      (fh3 : Vec Ideal S3x2048x8192 .f32) (ix3 g ⟨128 * j.1 + r.1, by omega⟩ ⟨512 * j.1 + o.1, by omega⟩) = D.wi j g r o)
    (hwh : ∀ (j : Fin 16) (g : Fin 3) (r o : Fin 128),
      (fh4 : Vec Ideal S3x2048x2048 .f32) (ix3 g ⟨128 * j.1 + r.1, by omega⟩ ⟨128 * j.1 + o.1, by omega⟩) = D.wh j g r o)
    (hbi : ∀ (g : Fin 3) (j : Fin 16) (r : Fin 128), x9 (ix2 ⟨16 * g.1 + j.1, by omega⟩ r) = D.bi j g r)
    (hbh : ∀ (g : Fin 3) (j : Fin 16) (r : Fin 128), x10 (ix2 ⟨16 * g.1 + j.1, by omega⟩ r) = D.bh j g r)
    (haq : ∀ j d k, (fh0 : Vec Ideal S16x64x128 .f32) (ix3 j d k) = D.aq j d k)
    (hak : ∀ j d k, (fh1 : Vec Ideal S16x64x128 .f32) (ix3 j d k) = D.ak j d k)
    (hav : ∀ j d k, (fh2 : Vec Ideal S16x64x128 .f32) (ix3 j d k) = D.av j d k)
    (hfw : ∀ d r, x5 (ix2 d r) = D.fw d r) (hfb : ∀ r, x6 (ix1 r) = D.fb r)
    (hgw : ∀ d r, x7 (ix2 d r) = D.gw d r) (hgb : ∀ r, x8 (ix1 r) = D.gb r) :
    Loads.Reads (loads (F := Ideal) c arg1 harg1 arg2 harg2 arg3 harg3 arg4 harg4 arg5 harg5 arg9 harg9 arg10 harg10 arg11 harg11 arg12 harg12 arg15 harg15 arg16 harg16 arg19 arg20 arg21 arg22 arg23 x0 x1 x2 x3 x4 x5 x6 x7 x8 x9 x10 fh0 fh1 fh2 fh3 fh4) D where
  x b k := (congrFun (loadAll_eq arg1 harg1 x0 _ _) _).trans (hx b k)
  wk d k := (congrFun (loadAll_eq arg4 harg4 x3 _ _) _).trans (hwk d k)
  wv k o := (congrFun (loadAll_eq arg5 harg5 x4 _ _) _).trans (hwv k o)
  old j b r := (loadOld_apply arg2 harg2 x1 j b r).trans (hh j b r)
  wq j d k := (loadProj_apply arg3 harg3 x2 j d k).trans (hwq j d k)
  wi j g r o := (loadWi_apply c arg19 fh3 j g r o).trans (hwi j g r o)
  wh j g r o := (loadWh_apply c arg20 fh4 j g r o).trans (hwh j g r o)
  bi g j r := (loadBias_apply arg15 harg15 x9 g j r).trans (hbi g j r)
  bh g j r := (loadBias_apply arg16 harg16 x10 g j r).trans (hbh g j r)
  aq j d k := (loadCopied_apply arg21 (sent (Memref.whole main_v4) fh0) j d k).trans ((sent_idx (F := Ideal) j d k fh0).trans (haq j d k))
  ak j d k := (loadCopied_apply arg22 (sent (Memref.whole main_v5) fh1) j d k).trans ((sent_idx (F := Ideal) j d k fh1).trans (hak j d k))
  av j d k := (loadCopied_apply arg23 (sent (Memref.whole main_v6) fh2) j d k).trans ((sent_idx (F := Ideal) j d k fh2).trans (hav j d k))
  fw d r := (congrFun (loadAll_eq arg9 harg9 x5 _ _) _).trans (hfw d r)
  fb r := (congrFun (loadAll_eq arg10 harg10 x6 _ _) _).trans (hfb r)
  gw d r := (congrFun (loadAll_eq arg11 harg11 x7 _ _) _).trans (hgw d r)
  gb r := (congrFun (loadAll_eq arg12 harg12 x8 _ _) _).trans (hgb r)

end

variable (m : (ℓ : Loc nD τ sig) → Buf (Elt Ideal) ℓ) (c : Dev nD) (t : Fin cfg0.N)

/-- The arguments of the cell, as launched. -/
def argsOf : Ref.Args where
  x0 := m (c, main_arg0)
  x1 := m (c, main_arg1)
  x2 := m (c, main_arg2)
  x3 := m (c, main_arg3)
  x4 := m (c, main_arg4)
  x5 := m (c, main_arg5)
  x6 := m (c, main_arg6)
  x7 := m (c, main_arg7)
  x8 := m (c, main_arg8)
  x9 := m (c, main_arg9)
  x10 := m (c, main_arg10)
  x11 := m (c, main_arg11)
  x12 := m (c, main_arg12)
  x13 := m (c, main_arg13)
  x14 := m (c, main_arg14)
  x15 := m (c, main_arg15)

/-- Everything the body loads at a point of the grid. -/
def loadsAt : Loads Ideal :=
  loads (F := Ideal) c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.whole cc0_scratch1) (Memref.whole cc0_scratch2) (Memref.whole cc0_scratch3) (Memref.whole cc0_scratch4) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v4) (V m c main_v5) (V m c main_v6) (V m c main_v0) (V m c main_v1)

/-- The row of gate `g` of unit `r` of block `j`, as the body's copies place it. -/
theorem row_eq (j : Fin 16) (g : Fin 3) (r : Fin 128) (h : 2048 * g.1 + (128 * j.1 + r.1) < 6144) :
    (⟨2048 * g.1 + (128 * j.1 + r.1), h⟩ : Fin 6144) = Ref.row j g r := Fin.ext (by show 2048 * g.1 + (128 * j.1 + r.1) = 2048 * g.1 + (j.1 * 128 + r.1); omega)
/-- The place of gate `g` of unit `r` of block `j` in the biases, as the rows place it. -/
theorem row_eq' (j : Fin 16) (g : Fin 3) (r : Fin 128) (h : 128 * (16 * g.1 + j.1) + r.1 < 6144) :
    (⟨128 * (16 * g.1 + j.1) + r.1, h⟩ : Fin 6144) = Ref.row j g r := Fin.ext (by show 128 * (16 * g.1 + j.1) + r.1 = 2048 * g.1 + (j.1 * 128 + r.1); omega)
/-- Unit `r` of block `j`, as the body's loads place it. -/
theorem unit_eq (j : Fin 16) (r : Fin 128) (h : 128 * j.1 + r.1 < 2048) :
    (⟨128 * j.1 + r.1, h⟩ : Fin 2048) = Ref.unit j r := Fin.ext (by show 128 * j.1 + r.1 = j.1 * 128 + r.1; omega)
/-- Column `o` of block `j`'s attended input, as the body's copies place it. -/
theorem col_eq (j : Fin 16) (o : Fin 512) (h : 512 * j.1 + o.1 < 8192) :
    (⟨512 * j.1 + o.1, h⟩ : Fin 8192) = Ref.col j o := Fin.ext (by show 512 * j.1 + o.1 = j.1 * 512 + o.1; omega)

/-- What the body loads is the cell's numbers. -/
theorem loads_reads : Loads.Reads (loadsAt m c t) (argsOf m c).data := by
  refine reads_of (D := (argsOf m c).data) (hx := ?_) (hwk := ?_) (hwv := ?_) (hh := ?_) (hwq := ?_) (hwi := ?_) (hwh := ?_) (hbi := ?_) (hbh := ?_) (haq := ?_) (hak := ?_) (hav := ?_) (hfw := ?_) (hfb := ?_) (hgw := ?_) (hgb := ?_) .. <;> intros
  · exact congrFun ((blk_0 m c t).trans (V_main_arg0 m c)) _
  · exact (blk_3 m c t _ _).trans (V_v3 m c 1 _ _)
  · exact (blk_4 m c t _ _).trans (congrFun (V_main_arg4 m c) _)
  · rw [unit_eq]; exact congrFun ((blk_1 m c t).trans (V_main_arg1 m c)) _
  · exact (congrFun (blk_2 m c t) _).trans (V_v2 m c _ _ _)
  · refine (V_v0 m c _ _ _).trans ?_; rw [col_eq, row_eq]; rfl
  · refine (V_v1 m c _ _ _).trans ?_; rw [row_eq, unit_eq]; rfl
  · refine (congrFun (blk_9 m c t) _).trans ((V_v7 m c _ _).trans ?_); rw [row_eq']; rfl
  · refine (congrFun (blk_10 m c t) _).trans ((V_v8 m c _ _).trans ?_); rw [row_eq']; rfl
  · exact V_v4 m c _ _ _
  · exact V_v5 m c _ _ _
  · exact V_v6 m c _ _ _
  · exact congrFun ((blk_5 m c t).trans (V_main_arg8 m c)) _
  · exact congrFun ((blk_6 m c t).trans (V_main_arg9 m c)) _
  · exact congrFun ((blk_7 m c t).trans (V_main_arg10 m c)) _
  · exact congrFun ((blk_8 m c t).trans (V_main_arg11 m c)) _

end Cert.Proof

end
-- ==== Proof.RunValue.lean ====
module

public import proofs.«01_k».proof.Proof.Loaded

@[expose] public section

set_option maxRecDepth 16384

noncomputable section

/-! What the body's run leaves in its two results, block by block, from what it loads. -/

namespace Cert.Proof

open Idealize.ShloMosaic Idealize.ShloMosaic.TcCoe
open Cert.KernelIdeal Cert.KernelIdeal.Gen

variable {F : FTy → Type} [FloatOps F]

/-- The sixteen blocks, last first. -/
abbrev blocks : List (Fin 16) := [15, 14, 13, 12, 11, 10, 9, 8, 7, 6, 5, 4, 3, 2, 1, 0]

section
variable (c : Dev nD) (i : grid0.Coords)
    (arg1 : Memref sig .tc .vmem S16x1024 .f32) (harg1 : arg1.IsWhole) (arg2 : Memref sig .tc .vmem S16x2048 .f32) (harg2 : arg2.IsWhole) (arg3 : Memref sig .tc .vmem S16x64x128 .f32) (harg3 : arg3.IsWhole) (arg4 : Memref sig .tc .vmem S1x64x1024 .f32) (harg4 : arg4.IsWhole) (arg5 : Memref sig .tc .vmem S1x1024x512 .f32) (harg5 : arg5.IsWhole) (arg9 : Memref sig .tc .vmem S64x128 .f32) (harg9 : arg9.IsWhole) (arg10 : Memref sig .tc .vmem S128 .f32) (harg10 : arg10.IsWhole) (arg11 : Memref sig .tc .vmem S64x128 .f32) (harg11 : arg11.IsWhole) (arg12 : Memref sig .tc .vmem S128 .f32) (harg12 : arg12.IsWhole) (arg15 : Memref sig .tc .vmem S48x128 .f32) (harg15 : arg15.IsWhole) (arg16 : Memref sig .tc .vmem S48x128 .f32) (harg16 : arg16.IsWhole)
    (arg17 : Memref sig .tc .vmem S16x2048 .f32) (harg17 : arg17.IsWhole) (arg18 : Memref sig .tc .vmem S16x2048 .f32) (harg18 : arg18.IsWhole)
    (arg19 : Memref sig .tc .vmem S16x3x128x512 .f32) (harg19 : arg19.IsWhole) (arg20 : Memref sig .tc .vmem S16x3x128x128 .f32) (harg20 : arg20.IsWhole) (arg21 : Memref sig .tc .vmem S16x64x128 .f32) (harg21 : arg21.IsWhole) (arg22 : Memref sig .tc .vmem S16x64x128 .f32) (harg22 : arg22.IsWhole) (arg23 : Memref sig .tc .vmem S16x64x128 .f32) (harg23 : arg23.IsWhole)
    (x0 : Vec F S16x1024 .f32) (x1 : Vec F S16x2048 .f32) (x2 : Vec F S16x64x128 .f32) (x3 : Vec F S1x64x1024 .f32) (x4 : Vec F S1x1024x512 .f32) (x5 : Vec F S64x128 .f32) (x6 : Vec F S128 .f32) (x7 : Vec F S64x128 .f32) (x8 : Vec F S128 .f32) (x9 : Vec F S48x128 .f32) (x10 : Vec F S48x128 .f32)
    (fh0 : HbBuf (F := F) c (Memref.whole main_v4)) (fh1 : HbBuf (F := F) c (Memref.whole main_v5)) (fh2 : HbBuf (F := F) c (Memref.whole main_v6)) (fh3 : HbBuf (F := F) c (Memref.whole main_v0)) (fh4 : HbBuf (F := F) c (Memref.whole main_v1))

/-- The first result is stored block by block, each block's value of what is loaded. -/
theorem pieces0 : (bodyRun c i arg1 harg1 arg2 harg2 arg3 harg3 arg4 harg4 arg5 harg5 arg9 harg9 arg10 harg10 arg11 harg11 arg12 harg12 arg15 harg15 arg16 harg16 arg17 harg17 arg18 harg18 arg19 harg19 arg20 harg20 arg21 harg21 arg22 harg22 arg23 harg23 x0 x1 x2 x3 x4 x5 x6 x7 x8 x9 x10 fh0 fh1 fh2 fh3 fh4).1
    = blocks.map fun j => (⟨colRect j, (loads c arg1 harg1 arg2 harg2 arg3 harg3 arg4 harg4 arg5 harg5 arg9 harg9 arg10 harg10 arg11 harg11 arg12 harg12 arg15 harg15 arg16 harg16 arg19 arg20 arg21 arg22 arg23 x0 x1 x2 x3 x4 x5 x6 x7 x8 x9 x10 fh0 fh1 fh2 fh3 fh4).out j⟩ : View.Piece (Elt F) S16x2048 .f32) := by chain_rfl

/-- The second result is stored block by block, each block's value of what is loaded. -/
theorem pieces1 : (bodyRun c i arg1 harg1 arg2 harg2 arg3 harg3 arg4 harg4 arg5 harg5 arg9 harg9 arg10 harg10 arg11 harg11 arg12 harg12 arg15 harg15 arg16 harg16 arg17 harg17 arg18 harg18 arg19 harg19 arg20 harg20 arg21 harg21 arg22 harg22 arg23 harg23 x0 x1 x2 x3 x4 x5 x6 x7 x8 x9 x10 fh0 fh1 fh2 fh3 fh4).2.1
    = blocks.map fun j => (⟨colRect j, (loads c arg1 harg1 arg2 harg2 arg3 harg3 arg4 harg4 arg5 harg5 arg9 harg9 arg10 harg10 arg11 harg11 arg12 harg12 arg15 harg15 arg16 harg16 arg19 arg20 arg21 arg22 arg23 x0 x1 x2 x3 x4 x5 x6 x7 x8 x9 x10 fh0 fh1 fh2 fh3 fh4).outMask j⟩ : View.Piece (Elt F) S16x2048 .f32) := by chain_rfl

end

end Cert.Proof

end
-- ==== Proof.KernelValue.lean ====
module

public import proofs.«01_k».proof.Proof.KernelLoads
public import proofs.«01_k».proof.Proof.RunValue

@[expose] public section

set_option maxRecDepth 16384

noncomputable section

/-! The kernel's two results at an index: the cell's mathematics at that entry. -/

namespace Cert.Proof

open Idealize.ShloMosaic Idealize.ShloMosaic.TcCoe
open Cert.KernelIdeal Cert.KernelIdeal.Gen

/-- Column blocks stored one after another, each block in its own place, read at a column of one of them. -/
theorem read_blocks {κ : Kind} {sp : Space} (v : View sig κ sp S16x2048 .f32) (f : v.ty.Contents (Elt Ideal)) (w : Fin 16 → Vec Ideal S16x128 .f32)
    (j b : Fin 16) (r : Fin 128) : ∀ l : List (Fin 16), j ∈ l →
      v.read (Elt Ideal) (v.writes (Elt Ideal) f (l.map fun j => (⟨colRect j, w j⟩ : View.Piece (Elt Ideal) S16x2048 .f32))) (ix2 b (Ref.unit j r))
        = w j (ix2 b r)
  | [], h => absurd h List.not_mem_nil
  | k :: l, h => by
    by_cases e : j = k
    · subst e
      refine View.read_writes_cons_hit_of_coords v f (colRect j) (w j) _ (ix2 b r) _ fun a => ?_
      fin_cases a
      · show b.1 = 0 + 1 * b.1; omega
      · show j.1 * 128 + r.1 = 128 * j.1 + 1 * r.1; omega
    · refine (View.read_writes_cons_miss_of_axis v f ⟨colRect k, w k⟩ _ _ 1 (128 * k.1) 128 rfl rfl rfl ?_).trans
        (read_blocks v f w j b r l ((List.mem_cons.mp h).resolve_left e))
      have : j.1 ≠ k.1 := fun h => e (Fin.ext h)
      show j.1 * 128 + r.1 < 128 * k.1 ∨ 128 * k.1 + 128 ≤ j.1 * 128 + r.1
      omega

/-- Every block is stored. -/
theorem mem_blocks (j : Fin 16) : j ∈ blocks := by revert j; decide

variable (m : (ℓ : Loc nD τ sig) → Buf (Elt Ideal) ℓ) (c : Dev nD) (t : Fin cfg0.N)

/-- The first result's stored blocks, from what is loaded. -/
theorem runAt_fst : (runAt m c t).1 = blocks.map fun j => (⟨colRect j, (loadsAt m c t).out j⟩ : View.Piece (Elt Ideal) S16x2048 .f32) :=
  pieces0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v4) (V m c main_v5) (V m c main_v6) (V m c main_v0) (V m c main_v1)
/-- The second result's stored blocks, from what is loaded. -/
theorem runAt_snd : (runAt m c t).2.1 = blocks.map fun j => (⟨colRect j, (loadsAt m c t).outMask j⟩ : View.Piece (Elt Ideal) S16x2048 .f32) :=
  pieces1 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v4) (V m c main_v5) (V m c main_v6) (V m c main_v0) (V m c main_v1)

/-- The first result's block: each block's new state where it is active, its old state elsewhere. -/
theorem out0_apply (b j : Fin 16) (r : Fin 128) : out0 m c t (ix2 b (Ref.unit j r)) = Spec.out (argsOf m c).data b j r := by
  unfold out0
  rw [runAt_fst]
  exact (read_blocks _ _ _ j b r _ (mem_blocks j)).trans (Loads.out_apply (loads_reads m c t) j b r)
/-- The second result's block: each block's activity on each of its columns. -/
theorem out1_apply (b j : Fin 16) (r : Fin 128) : out1 m c t (ix2 b (Ref.unit j r)) = Spec.mask (argsOf m c).data b j := by
  unfold out1
  rw [runAt_snd]
  exact (read_blocks _ _ _ j b r _ (mem_blocks j)).trans (Loads.outMask_apply (loads_reads m c t) j b r)

/-- The grid's one point. -/
abbrev pt : Fin cfg0.N := ⟨0, by decide⟩

/-- The grid has one point. -/
theorem pt_eq : t = pt := Fin.ext (Nat.lt_one_iff.mp t.isLt)

/-- The first result's block is the whole array. -/
theorem whole_11 (X : Vec Ideal S16x2048 .f32) : (cfg0.win 11).cut (grid0.coords pt) X = ((cfg0.win 11).blk pt).view.read (Elt Ideal) X :=
  funext fun i => at_eq (s := S16x2048) X fun a => by
    fin_cases a
    all_goals exact ((Nat.zero_add _).trans (Nat.one_mul _)).symm
/-- The first result's block covers the array. -/
theorem cover_11 (i : S16x2048.Idx) : i ∈ ((cfg0.win 11).blk pt).view.set :=
  Finset.mem_map.mpr ⟨i, Finset.mem_univ _, funext fun a => Fin.ext (by
    fin_cases a
    all_goals exact (Nat.zero_add _).trans (Nat.one_mul _))⟩
/-- The first result's buffer is left at its value. -/
theorem after_11 : (dats m 0 c).after 11 t = out0 m c t := by dsimp only [dats]
/-- The first result ends at its block. -/
theorem final0 : (dats m 0 c).arrAt 11 cfg0.N = out0 m c pt :=
  (dats m 0 c).arrAt_eq_of_cover 11 (out0 m c pt)
    (fun t _ => by rw [pt_eq t]; exact (congrArg ((cfg0.win 11).cut (grid0.coords pt)) (after_11 m c pt)).trans (whole_11 _))
    (fun i => ⟨pt, flush0_11 pt, cover_11 i⟩)
/-- The second result's block is the whole array. -/
theorem whole_12 (X : Vec Ideal S16x2048 .f32) : (cfg0.win 12).cut (grid0.coords pt) X = ((cfg0.win 12).blk pt).view.read (Elt Ideal) X :=
  funext fun i => at_eq (s := S16x2048) X fun a => by
    fin_cases a
    all_goals exact ((Nat.zero_add _).trans (Nat.one_mul _)).symm
/-- The second result's block covers the array. -/
theorem cover_12 (i : S16x2048.Idx) : i ∈ ((cfg0.win 12).blk pt).view.set :=
  Finset.mem_map.mpr ⟨i, Finset.mem_univ _, funext fun a => Fin.ext (by
    fin_cases a
    all_goals exact (Nat.zero_add _).trans (Nat.one_mul _))⟩
/-- The second result's buffer is left at its value. -/
theorem after_12 : (dats m 0 c).after 12 t = out1 m c t := by dsimp only [dats]
/-- The second result ends at its block. -/
theorem final1 : (dats m 0 c).arrAt 12 cfg0.N = out1 m c pt :=
  (dats m 0 c).arrAt_eq_of_cover 12 (out1 m c pt)
    (fun t _ => by rw [pt_eq t]; exact (congrArg ((cfg0.win 12).cut (grid0.coords pt)) (after_12 m c pt)).trans (whole_12 _))
    (fun i => ⟨pt, flush0_12 pt, cover_12 i⟩)

end Cert.Proof

end
-- ==== Proof.TopRank.lean ====
/- The positions a stable sort puts among its first places, by rank: position `i` lands at place `k` exactly when `k`
   positions go before it, "before" being the sort's own comparison and, between two that it ties, the lower position. -/
module

public import Idealize.ShloMosaic.Lib.SortFacts
public import Idealize.ShloMosaic.Lib.SortPrefix
public import Mathlib.Data.EReal.Basic
public import Mathlib.Order.Interval.Finset.Fin

@[expose] public section

namespace Cert.Proof

open Idealize.ShloMosaic

/-- On a list in increasing order the stable sort asks its comparison only of a later position against an earlier one. -/
theorem stableSort_later {n : Nat} (R R' : Fin n → Fin n → Bool) (h : ∀ a b, a < b → R b a = R' b a) :
    ∀ l : List (Fin n), l.Pairwise (· < ·) → stableSort R l = stableSort R' l
  | [], _ => rfl
  | a :: l, hl => by
    have hl' := List.pairwise_cons.mp hl
    unfold stableSort
    rw [stableSort_later R R' h l hl'.2]
    refine insertBefore_congr R R' a _ fun b hb => h a b ?_
    exact hl'.1 b ((perm_stableSort R' l).mem_iff.mp hb)

/-- Before in the sort of `s` from the greatest down: greater, or equal at a lower position. -/
noncomputable def ahead {n : Nat} (s : Fin n → EReal) (a b : Fin n) : Bool :=
  decide (s b < s a) || (decide (s a = s b) && decide (a < b))

/-- Going before is a strict total order on positions. -/
theorem ahead_strict {n : Nat} (s : Fin n → EReal) : StrictTotalBefore (ahead s) :=
  StrictTotalBefore.of_key_then_position (fun x y : EReal => decide (y < x)) s (fun a => by simp)
    (fun a b c hab hbc => by simp only [decide_eq_true_eq] at *; exact hbc.trans hab)
    (fun a b => by
      rcases lt_trichotomy a b with h | h | h
      · exact Or.inr (Or.inr (by simpa using h))
      · exact Or.inr (Or.inl h)
      · exact Or.inl (by simpa using h))

/-- Sorting stably by value from the greatest down is sorting by `ahead`. -/
theorem sortedFrom_ahead {n : Nat} (s : Fin n → EReal) (R : Fin n → Fin n → Bool) (hR : ∀ a b, R a b = decide (s b < s a)) :
    sortedFrom R = sortedFrom (ahead s) := by
  funext k
  unfold sortedFrom
  have h : sortPositions n R = sortPositions n (ahead s) :=
    stableSort_later R (ahead s) (fun a b hab => by simp [hR, ahead, not_lt.mpr hab.le]) _
      (List.pairwise_lt_finRange n)
  rw [List.get_of_eq h]
  rfl

/-- How many positions go before `i`. -/
noncomputable def rank {n : Nat} (s : Fin n → EReal) (i : Fin n) : Nat :=
  (Finset.univ.filter fun j => ahead s j i = true).card

/-- The position at place `k` has `k` positions before it. -/
theorem rank_sortedFrom {n : Nat} (s : Fin n → EReal) (k : Fin n) : rank s (sortedFrom (ahead s) k) = k.val := by
  have hB := ahead_strict s
  have hlt : ∀ a b : Fin n, ahead s (sortedFrom (ahead s) a) (sortedFrom (ahead s) b) = true ↔ a < b := by
    intro a b
    have hno : ∀ i j : Fin n, i < j → ahead s (sortedFrom (ahead s) j) (sortedFrom (ahead s) i) = false :=
      fun i j hij => sortedFrom_noInversion (ahead s) (ahead s) (fun _ _ h => hB.asymm _ _ h) (fun _ _ h => h) hB.negTrans i j hij
    constructor
    · intro h
      by_contra hab
      rcases lt_or_eq_of_le (not_lt.mp hab) with h' | h'
      · rw [hno _ _ h'] at h; exact absurd h (by decide)
      · rw [h', hB.irrefl] at h; exact absurd h (by decide)
    · intro h
      rcases hB.total (sortedFrom (ahead s) a) (sortedFrom (ahead s) b) (fun e => h.ne (sortedFrom_injective _ e)) with h' | h'
      · exact h'
      · rw [hno _ _ h] at h'; exact absurd h' (by decide)
  unfold rank
  have himg : (Finset.univ.filter fun j => ahead s j (sortedFrom (ahead s) k) = true)
      = (Finset.univ.filter fun a : Fin n => a < k).image (sortedFrom (ahead s)) := by
    ext j
    simp only [Finset.mem_filter, Finset.mem_univ, true_and, Finset.mem_image]
    constructor
    · intro h
      obtain ⟨a, rfl⟩ := sortedFrom_surjective (ahead s) j
      exact ⟨a, (hlt a k).mp h, rfl⟩
    · rintro ⟨a, ha, rfl⟩
      exact (hlt a k).mpr ha
  rw [himg, Finset.card_image_of_injective _ (sortedFrom_injective _),
    show (Finset.univ.filter fun a : Fin n => a < k) = Finset.Iio k by ext; simp]
  exact Fin.card_Iio k

/-- Position `i` is at one of the first `m` places exactly when fewer than `m` positions go before it. -/
theorem exists_sortedFrom_iff {n m : Nat} (hm : m ≤ n) (s : Fin n → EReal) (i : Fin n) :
    (∃ k : Fin m, sortedFrom (ahead s) (k.castLE hm) = i) ↔ rank s i < m := by
  constructor
  · rintro ⟨k, rfl⟩
    rw [rank_sortedFrom]
    exact k.isLt
  · intro h
    obtain ⟨a, rfl⟩ := sortedFrom_surjective (ahead s) i
    rw [rank_sortedFrom] at h
    exact ⟨⟨a.val, h⟩, rfl⟩

end Cert.Proof

end
-- ==== Proof.RefMask.lean ====
module

public import proofs.«01_k».proof.Proof.RefRead
public import proofs.«01_k».proof.Proof.TopRank
public import Idealize.ShloMosaic.Lib.Routing.OpsSet
public import Idealize.ShloMosaic.Lib.Routing.OpsPair
public import Idealize.ShloMosaic.Lib.WordCmp

@[expose] public section

set_option maxRecDepth 16384
set_option maxHeartbeats 1000000

noncomputable section

/-! The reference's mask: zeros scattered over ones at the eight places the stable top-eight names, which is the comparison of
each block's rank with eight. -/

namespace Cert.Proof.Ref

open Idealize.ShloMosaic Idealize.ShloMosaic.TcCoe Idealize.ShloMosaic.WordCmp Idealize.ShloMosaic.Routing
open Cert.ReferenceIdeal Cert.ReferenceIdeal.Gen Cert.ReferenceIdeal.Read

variable (A : Args)

/-- The block at place `k` of batch entry `b` in descending order of the empty input's weight. -/
def place (b : Fin 16) (k : Fin 8) : Fin 16 := sortedFrom (ahead (Spec.null A.data b)) (k.castLE (by decide))

/-- A sort of two operands permutes the second by the order of the pairs. -/
theorem sort2_snd (s : Shape) (d : Nat) (hd : d < s.rank) {α β : Type} (cmp : α × β → α × β → BitVec 1) (x : s.Idx → α)
    (y : s.Idx → β) (j : s.Idx) :
    (Host.sort2 s d cmp x y).2 j
      = y (j.along ⟨d, hd⟩ (sortedFrom (fun k k' => cmp (x (j.along ⟨d, hd⟩ k), y (j.along ⟨d, hd⟩ k))
          (x (j.along ⟨d, hd⟩ k'), y (j.along ⟨d, hd⟩ k')) == 1#1) (j ⟨d, hd⟩))) := by
  simp only [Host.sort2, dif_pos hd]

/-- The indices a top-eight returns along a row: the stable order's numbers, as words. -/
theorem topK_index {α : Type} (gt : α → α → BitVec 1) (y : S16x16.Idx → α) (h : S16x16.Slices (fun _ => 0) S16x8)
    (b : Fin 16) (k : Fin 8) :
    (Host.topK S16x8 1 gt y h).2 (ix2 b k)
      = BitVec.ofNat 32 (sortedFrom (fun a c => gt (y (ix2 b a)) (y (ix2 b c)) == 1#1) (k.castLE (by decide : 8 ≤ 16))).val := by
  have ha : ∀ r : Fin 16, (ix2 b (k.castLE (by decide : 8 ≤ 16)) : S16x16.Idx).along (1 : Fin 2) r = ix2 b r := by
    intro r
    funext q
    fin_cases q <;> rfl
  unfold Host.topK
  dsimp only
  refine (extractStridedSlice_apply (s := S16x16) (t := S16x8) (fun _ => 0) _ h (ix2 b k) (ix2 b (k.castLE (by decide : 8 ≤ 16))) ?_).trans ?_
  · intro q; fin_cases q <;> exact (Nat.zero_add _).symm
  rw [sort2_snd S16x16 1 (by decide)]
  dsimp only
  rw [dif_pos (by decide : 1 < S16x16.rank)]
  refine (congrArg (fun n : Fin 16 => BitVec.ofNat 32 n.val) ?_ : _)
  refine (congrArg (fun R : Fin 16 → Fin 16 → Bool => sortedFrom R (k.castLE (by decide : 8 ≤ 16))) ?_ : _)
  funext r r'
  exact congrArg₂ (fun u v => gt (y u) (y v) == 1#1) (ha r) (ha r')

/-- The top-eight's index word is the block's number. -/
theorem indices_apply (b : Fin 16) (k : Fin 8) :
    val_main_indices (F := Ideal) A.x0 A.x1 A.x2 A.x3 (ix2 b k) = BitVec.ofNat 32 (place A b k).val := by
  have hs := sortedFrom_ahead (Spec.null A.data b)
    (fun a c => FloatOps.cmpfTotal (F := Ideal) (φ := .f32) .gt (val_main_v30 (F := Ideal) A.x0 A.x1 A.x2 A.x3 (ix2 b a))
      (val_main_v30 (F := Ideal) A.x0 A.x1 A.x2 A.x3 (ix2 b c)) == 1#1)
    (fun a c => by
      rw [v30_apply A, v30_apply A, Ideal.cmpfTotal_def]
      show (BitVec.ofBool (decide (Spec.null A.data b c < Spec.null A.data b a)) == 1#1) = _
      by_cases h : Spec.null A.data b c < Spec.null A.data b a <;> simp [h])
  unfold place
  rw [← hs]
  exact topK_index _ _ _ b k

/-- The word of a small number is not negative, so the wrap leaves it. -/
theorem v43_apply (b : Fin 16) (k : Fin 8) :
    val_main_v43 (F := Ideal) A.x0 A.x1 A.x2 A.x3 (ix2 b k) = BitVec.ofNat 32 (place A b k).val := by
  rw [val_main_v43_apply, val_main_v40_apply, indices_apply]
  refine wrap_of_lt _ _ ?_
  have := (place A b k).isLt
  simp only [BitVec.toNat_ofNat]; omega

/-- The first coordinate that a scattered zero is sent to is its batch row. -/
theorem v47_0 (b : Fin 16) (k : Fin 8) :
    val_main_v47 (F := Ideal) A.x0 A.x1 A.x2 A.x3 (ix3 b k 0) = BitVec.ofNat 32 b.val := by
  pointwise [val_main_v47, val_main_v45, val_main_v44, val_main_v38, val_main_v35, val_main_v33, val_main_v32, val_main_v34, val_main_c]
  refine wrap_of_lt _ _ ?_
  simp only [BitVec.toNat_ofNat]; omega
/-- The second coordinate that a scattered zero is sent to is the block at that place of the sort. -/
theorem v47_1 (b : Fin 16) (k : Fin 8) :
    val_main_v47 (F := Ideal) A.x0 A.x1 A.x2 A.x3 (ix3 b k 1) = BitVec.ofNat 32 (place A b k).val := by
  pointwise [val_main_v47, val_main_v46]
  exact v43_apply A b k

/-- The reference's mask before it is repeated over units: zero at the eight blocks of the greatest null weights, else one. -/
theorem v49_apply (b j : Fin 16) : val_main_v49 (F := Ideal) A.x0 A.x1 A.x2 A.x3 (ix2 b j) = Spec.mask A.data b j := by
  have hr : Spec.rank (Spec.null A.data b) j = rank (Spec.null A.data b) j := by
    unfold Spec.rank rank ahead
    congr 1; ext k; simp
  have hw : ∀ n : ℕ, n < 16 → (BitVec.ofNat 32 n).toInt = n := fun n hn => by
    rw [toInt_ofNat_of_lt (by omega)]
  have hland : ∀ (a : Fin 16) (k : Fin 8), scatter_S16x16_S16x8x2_S16x8_n_01_01_2.resultIdx? (ix2 a k)
      (val_main_v47 (F := Ideal) A.x0 A.x1 A.x2 A.x3) = some (ix2 b j) ↔ a = b ∧ place A a k = j := by
    intro a k
    refine (scatter_lands2 scatter_S16x16_S16x8x2_S16x8_n_01_01_2 rfl rfl rfl (val_main_v47 (F := Ideal) A.x0 A.x1 A.x2 A.x3) a k b j).trans ?_
    have h0 := v47_0 A a k
    have h1 := v47_1 A a k
    rw [show ValueIdx.ix3 a k 0 = (ix3 a k 0 : S16x8x2.Idx) from rfl, show ValueIdx.ix3 a k 1 = (ix3 a k 1 : S16x8x2.Idx) from rfl, h0, h1,
      hw _ a.isLt, hw _ (place A a k).isLt, Fin.ext_iff, Fin.ext_iff]
    exact_mod_cast Iff.rfl
  unfold Spec.mask
  rw [hr]
  unfold val_main_v49
  split
  · rename_i h
    rw [scatter_set_miss]
    · pointwise [val_main_v31, val_main_cst_4]
    · intro q hq
      obtain ⟨a, k, rfl⟩ : ∃ (a : Fin 16) (k : Fin 8), q = ix2 a k := ⟨q 0, q 1, ValueIdx.eq_ix2 q⟩
      obtain ⟨rfl, hp⟩ := (hland a k).1 hq
      exact absurd ((exists_sortedFrom_iff (by decide) _ j).1 ⟨k, hp⟩) (by omega)
  · rename_i h
    obtain ⟨k, hk⟩ := (exists_sortedFrom_iff (m := 8) (by decide) (Spec.null A.data b) j).2 (by omega)
    refine scatter_set_hit _ _ _ _ _ _ (fun q _ => ?_) (ix2 b k) ((hland b k).2 ⟨rfl, hk⟩)
    pointwise [val_main_v48, val_main_cst_8]

end Cert.Proof.Ref
end
-- ==== Proof.PreRead.lean ====
module

public import proofs.«01_k».proof.Pre_block_diagonal
public import proofs.«01_k».proof.Proof.RefRead
public import Idealize.ShloMosaic.Lib.Routing.Words

@[expose] public section

set_option maxRecDepth 16384

noncomputable section

/-! The precondition read at an index: off its own block, a gate row's weights are zero. -/

namespace Cert.Proof

open Idealize.ShloMosaic Idealize.ShloMosaic.TcCoe
open Cert.Pre_block_diagonal

/-- The shape relations the precondition's operations take. -/
instance pre_facts : Cert.Pre_block_diagonal.Facts := ⟨by decide, by decide⟩

/-- The words of a test at row `r` and column `k`, the columns' blocks `n` wide: it holds where the row's block is the
column's, or the weight is zero. -/
def test (r k n : ℕ) (x : EReal) : BitVec 1 :=
  IntOp.ori (IntOp.cmpi CmpIPredicate.eq
      (IntOp.divsi ArithUnit.host (IntOp.remsi ArithUnit.host (BitVec.ofNat 32 r) (BitVec.ofNat 32 2048)) (BitVec.ofNat 32 128))
      (IntOp.divsi ArithUnit.host (BitVec.ofNat 32 k) (BitVec.ofNat 32 n)))
    (BitVec.ofBool (decide (x = 0)))

/-- Equal words of small numbers are of equal numbers. -/
theorem word_inj {a b : ℕ} (ha : a < 2 ^ 32) (hb : b < 2 ^ 32) (e : BitVec.ofNat 32 a = BitVec.ofNat 32 b) : a = b := by
  have := congrArg BitVec.toNat e
  rwa [BitVec.toNat_ofNat, BitVec.toNat_ofNat, Nat.mod_eq_of_lt ha, Nat.mod_eq_of_lt hb] at this

/-- Where a test holds and the row's block is not the column's, the weight is zero. -/
theorem zero_of_test (r k n : ℕ) (x : EReal) (hr : r < 6144) (hk : k < 8192) (h0 : 0 < n) (hn : n < 2 ^ 31)
    (hne : r % 2048 / 128 ≠ k / n) (h : test r k n x = 1#1) : x = 0 := by
  by_contra hx
  have e : IntOp.cmpi CmpIPredicate.eq (BitVec.ofNat 32 (r % 2048 / 128)) (BitVec.ofNat 32 (k / n)) = 0#1 := by
    have : BitVec.ofNat 32 (r % 2048 / 128) ≠ BitVec.ofNat 32 (k / n) := fun hw =>
      hne (word_inj (by omega) (Nat.lt_of_le_of_lt (Nat.div_le_self k n) (by omega)) hw)
    show BitVec.ofBool (BitVec.ofNat 32 (r % 2048 / 128) == BitVec.ofNat 32 (k / n)) = 0#1
    rw [beq_false_of_ne this]; rfl
  unfold test at h
  rw [Routing.remsi_word _ (by omega) (by omega) (by omega), Routing.divsi_word _ (by omega) (by omega) (by omega),
    Routing.divsi_word _ (by omega) h0 hn, e, decide_eq_false hx] at h
  exact absurd h (by decide)

/-- The first test at an entry. -/
theorem fn_fst (A : Ref.Args) (x16 : IVec S_ 32) (r : Fin 6144) (k : Fin 8192) :
    (Cert.Pre_block_diagonal.fn (F := Ideal) A.x0 A.x1 A.x2 A.x3 A.x4 A.x5 A.x6 A.x7 A.x8 A.x9 A.x10 A.x11 A.x12 A.x13 A.x14 A.x15 x16).1 (ix2 r k) = test r k 512 (A.x12 (ix2 r k)) := by
  pointwise [Cert.Pre_block_diagonal.fn, Cert.Pre_block_diagonal.fn_part1]
  rfl
/-- The second test at an entry. -/
theorem fn_snd (A : Ref.Args) (x16 : IVec S_ 32) (r : Fin 6144) (k : Fin 2048) :
    (Cert.Pre_block_diagonal.fn (F := Ideal) A.x0 A.x1 A.x2 A.x3 A.x4 A.x5 A.x6 A.x7 A.x8 A.x9 A.x10 A.x11 A.x12 A.x13 A.x14 A.x15 x16).2 (ix2 r k) = test r k 128 (A.x13 (ix2 r k)) := by
  pointwise [Cert.Pre_block_diagonal.fn, Cert.Pre_block_diagonal.fn_part1]
  rfl

/-- Under the precondition, the input weights off the blocks are zero. -/
theorem blockI_of (A : Ref.Args) (x16 : IVec S_ 32) (h : (Cert.Pre_block_diagonal.fn (F := Ideal) A.x0 A.x1 A.x2 A.x3 A.x4 A.x5 A.x6 A.x7 A.x8 A.x9 A.x10 A.x11 A.x12 A.x13 A.x14 A.x15 x16).1 = fun _ => 1#1) : Ref.BlockI A := fun j j' g c o hj =>
  zero_of_test (Ref.row j g c) (Ref.col j' o) 512 _ (Ref.row j g c).isLt (Ref.col j' o).isLt (by decide) (by decide)
    (by
      have : j.1 ≠ j'.1 := fun e => hj (Fin.ext e)
      show (2048 * g.1 + (j.1 * 128 + c.1)) % 2048 / 128 ≠ (j'.1 * 512 + o.1) / 512
      omega)
    ((fn_fst A x16 _ _).symm.trans (congrFun h _))
/-- Under the precondition, the state weights off the blocks are zero. -/
theorem blockH_of (A : Ref.Args) (x16 : IVec S_ 32) (h : (Cert.Pre_block_diagonal.fn (F := Ideal) A.x0 A.x1 A.x2 A.x3 A.x4 A.x5 A.x6 A.x7 A.x8 A.x9 A.x10 A.x11 A.x12 A.x13 A.x14 A.x15 x16).2 = fun _ => 1#1) : Ref.BlockH A := fun j j' g c k hj =>
  zero_of_test (Ref.row j g c) (Ref.unit j' k) 128 _ (Ref.row j g c).isLt (by have := (Ref.unit j' k).isLt; omega) (by decide) (by decide)
    (by
      have : j.1 ≠ j'.1 := fun e => hj (Fin.ext e)
      show (2048 * g.1 + (j.1 * 128 + c.1)) % 2048 / 128 ≠ (j'.1 * 128 + k.1) / 128
      omega)
    ((fn_snd A x16 _ _).symm.trans (congrFun h _))

end Cert.Proof

end
-- ==== Proof.Algebraic.lean ====
module

public import proofs.«01_k».proof.Defs
public import proofs.«01_k».proof.Proof.Frames
public import proofs.«01_k».proof.Proof.KernelValue
public import proofs.«01_k».proof.Proof.RefMask
public import proofs.«01_k».proof.Proof.PreRead

@[expose] public section

set_option maxRecDepth 16384

noncomputable section

/-! The kernel and the reference end with equal results at exact arithmetic. -/

namespace Cert.Proof

open Idealize.ShloMosaic Idealize.ShloMosaic.TcCoe Idealize.SL.Sem
open Cert.ReferenceIdeal.Read

/-- Every column is a unit of a block. -/
theorem column (k : Fin 2048) : ∃ (j : Fin 16) (r : Fin 128), k = Ref.unit j r :=
  ⟨⟨k.1 / 128, by omega⟩, ⟨k.1 % 128, by omega⟩, Fin.ext (by show k.1 = k.1 / 128 * 128 + k.1 % 128; omega)⟩

/-- Two results that agree on each block's units are equal. -/
theorem ext_units (x y : FVec Ideal Cert.KernelIdeal.S16x2048 .f32) (h : ∀ (b j : Fin 16) (r : Fin 128), x (ix2 b (Ref.unit j r)) = y (ix2 b (Ref.unit j r))) :
    x = y := funext fun i => by
  obtain ⟨j, r, e⟩ := column (i 1)
  have hi : i = ix2 (i 0) (Ref.unit j r) := by rw [← e]; exact eq_ix2 i
  rw [hi]; exact h (i 0) j r

/-- The arguments the reference is launched with. -/
def refArgs (m' : (ℓ : Loc Cert.ReferenceIdeal.nD Cert.ReferenceIdeal.τ Cert.ReferenceIdeal.sig) → Buf (Elt Ideal) ℓ) (c : Dev Cert.ReferenceIdeal.nD) :
    Ref.Args where
  x0 := m' (c, Cert.ReferenceIdeal.main_arg0)
  x1 := m' (c, Cert.ReferenceIdeal.main_arg1)
  x2 := m' (c, Cert.ReferenceIdeal.main_arg2)
  x3 := m' (c, Cert.ReferenceIdeal.main_arg3)
  x4 := m' (c, Cert.ReferenceIdeal.main_arg4)
  x5 := m' (c, Cert.ReferenceIdeal.main_arg5)
  x6 := m' (c, Cert.ReferenceIdeal.main_arg6)
  x7 := m' (c, Cert.ReferenceIdeal.main_arg7)
  x8 := m' (c, Cert.ReferenceIdeal.main_arg8)
  x9 := m' (c, Cert.ReferenceIdeal.main_arg9)
  x10 := m' (c, Cert.ReferenceIdeal.main_arg10)
  x11 := m' (c, Cert.ReferenceIdeal.main_arg11)
  x12 := m' (c, Cert.ReferenceIdeal.main_arg12)
  x13 := m' (c, Cert.ReferenceIdeal.main_arg13)
  x14 := m' (c, Cert.ReferenceIdeal.main_arg14)
  x15 := m' (c, Cert.ReferenceIdeal.main_arg15)

/-- The reference's first result, from its arguments. -/
def refOut (A : Ref.Args) : FVec Ideal Cert.KernelIdeal.S16x2048 .f32 :=
  val_main_v147 (F := Ideal) A.x0 A.x1 A.x2 A.x3 A.x4 A.x5 A.x6 A.x7 A.x8 A.x9 A.x10 A.x11 A.x12 A.x13 A.x14 A.x15
/-- The reference's second result, from its arguments. -/
def refMask (A : Ref.Args) : FVec Ideal Cert.KernelIdeal.S16x2048 .f32 :=
  val_main_v53 (F := Ideal) A.x0 A.x1 A.x2 A.x3

variable (m : (ℓ : Loc Cert.KernelIdeal.nD Cert.KernelIdeal.τ Cert.KernelIdeal.sig) → Buf (Elt Ideal) ℓ) (c : Dev Cert.KernelIdeal.nD)
  (m' : (ℓ : Loc Cert.ReferenceIdeal.nD Cert.ReferenceIdeal.τ Cert.ReferenceIdeal.sig) → Buf (Elt Ideal) ℓ)

/-- Where the weights are block-diagonal, the kernel's first result is the reference's. -/
theorem out0_eq (hI : Ref.BlockI (argsOf m c)) (hH : Ref.BlockH (argsOf m c)) : out0 m c pt = refOut (argsOf m c) :=
  ext_units _ _ fun b j r => (out0_apply m c pt b j r).trans
    (Ref.v147_apply (argsOf m c) hI hH (Ref.v49_apply (argsOf m c)) b j r).symm
/-- The kernel's second result is the reference's. -/
theorem out1_eq : out1 m c pt = refMask (argsOf m c) :=
  ext_units _ _ fun b j r => (out1_apply m c pt b j r).trans
    (Ref.v53_mask (argsOf m c) (Ref.v49_apply (argsOf m c)) b j r).symm

/-- Launched with equal arguments, the two compute from the same. -/
theorem args_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) : refArgs m' c = argsOf m c := by
  obtain ⟨h0, h1, h2, h3, h4, h5, h6, h7, h8, h9, h10, h11, h12, h13, h14, h15, h16⟩ := h
  refine (Ref.Args.mk.injEq ..).mpr ⟨h0, h1, h2, h3, h4, h5, h6, h7, h8, h9, h10, h11, h12, h13, h14, h15⟩

/-- The reference's first result, over the contents it is launched with. -/
theorem ref_out (c : Dev Cert.ReferenceIdeal.nD) : val_main_v147 (F := Ideal) (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6)) (StableHlo.launchContents m' c (Proc.devRef .tc Cert.ReferenceIdeal.main_arg7)) (StableHlo.launchContents m' c (Proc.devRef .tc Cert.ReferenceIdeal.main_arg8)) (StableHlo.launchContents m' c (Proc.devRef .tc Cert.ReferenceIdeal.main_arg9)) (StableHlo.launchContents m' c (Proc.devRef .tc Cert.ReferenceIdeal.main_arg10)) (StableHlo.launchContents m' c (Proc.devRef .tc Cert.ReferenceIdeal.main_arg11)) (StableHlo.launchContents m' c (Proc.devRef .tc Cert.ReferenceIdeal.main_arg12)) (StableHlo.launchContents m' c (Proc.devRef .tc Cert.ReferenceIdeal.main_arg13)) (StableHlo.launchContents m' c (Proc.devRef .tc Cert.ReferenceIdeal.main_arg14)) (StableHlo.launchContents m' c (Proc.devRef .tc Cert.ReferenceIdeal.main_arg15)) = refOut (refArgs m' c) := by chain_rfl

/-- The reference's second result, over the contents it is launched with. -/
theorem ref_mask (c : Dev Cert.ReferenceIdeal.nD) : val_main_v53 (F := Ideal) (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) = refMask (refArgs m' c) := by chain_rfl

/-- Launched with equal arguments, the reference's first result is the same function of the kernel's. -/
theorem ref_out_eq (h : refArgs m' c = argsOf m c) : refOut (refArgs m' c) = refOut (argsOf m c) := by rw [h]

/-- Launched with equal arguments, the reference's second result is the same function of the kernel's. -/
theorem ref_mask_eq (h : refArgs m' c = argsOf m c) : refMask (refArgs m' c) = refMask (argsOf m c) := by rw [h]

/-- The kernel ends with its results at the reference's functions of its arguments. -/
theorem run_value (ρ : Dev Cert.KernelIdeal.nD → PrngReg) (hI : ∀ c, Ref.BlockI (argsOf m c)) (hH : ∀ c, Ref.BlockH (argsOf m c)) :
    θ_run (Cert.KernelIdeal.defs (F := Ideal)) (onTc (τ := Cert.KernelIdeal.τ) (Cert.KernelIdeal.main (F := Ideal))) ⟨m, fun _ => 0, ρ⟩
      (fun r => (∀ c : Dev Cert.KernelIdeal.nD, r.2.mem ((c.tc : Thread Cert.KernelIdeal.nD Cert.KernelIdeal.τ).loc Cert.KernelIdeal.main_v9_0) = refOut (argsOf m c)
        ∧ r.2.mem ((c.tc : Thread Cert.KernelIdeal.nD Cert.KernelIdeal.τ).loc Cert.KernelIdeal.main_v9_1) = refMask (argsOf m c)) ∧ ArgsKept m r) :=
  (θ_run _ _ _).mono (fun r h => ⟨fun c => ⟨((h.1 c).1 11).trans ((final0 m c).trans (out0_eq m c (hI c) (hH c))),
    ((h.1 c).1 12).trans ((final1 m c).trans (out1_eq m c))⟩, kept_of_post m h.1⟩) (run_main m ρ)

/-- At exact arithmetic and with block-diagonal weights, the kernel and the reference end with equal results. -/
theorem algebraic : Cert.algebraic_KernelIdeal_ReferenceIdeal_pre_block_diagonal (hKernelIdeal := Cert.KernelIdeal.Gen.facts)
    (hReferenceIdeal := Cert.ReferenceIdeal.Gen.facts) (hPre_block_diagonal := pre_facts) := fun m g m' g' hpre hargs => by
  refine ⟨fun c => refOut (argsOf m c), fun c => refMask (argsOf m c), ?_, ?_⟩
  · exact (θ_run _ _ _).mono (fun r h c => ⟨(h.1 c).1, (h.1 c).2, h.2 c⟩)
      (run_value m g (fun c => blockI_of (argsOf m c) _ (hpre c).1) (fun c => blockH_of (argsOf m c) _ (hpre c).2))
  · refine (θ_run _ _ _).mono (fun r h c => ⟨(h c).1.trans ?_, (h c).2.1.trans ?_, (h c).2.2⟩) (Cert.ReferenceIdeal.Value.run m' g')
    · exact (val_main_v147_eq (StableHlo.launchContents m' c)).trans ((ref_out m' c).trans (ref_out_eq m c m' (args_eq m c m' (hargs c))))
    · exact (val_main_v53_eq (StableHlo.launchContents m' c)).trans ((ref_mask m' c).trans (ref_mask_eq m c m' (args_eq m c m' (hargs c))))

/-- The kernel at exact arithmetic keeps its arguments under the precondition. -/
theorem frame_kernelIdeal_pre : Cert.quiescent_KernelIdeal_pre_block_diagonal (hKernelIdeal := Cert.KernelIdeal.Gen.facts)
    (hPre_block_diagonal := pre_facts) := fun m g _ => run_kept (F := Ideal) m g
/-- The reference keeps its arguments under the precondition. -/
theorem frame_reference_pre : Cert.quiescent_ReferenceIdeal_pre_block_diagonal (hReferenceIdeal := Cert.ReferenceIdeal.Gen.facts)
    (hPre_block_diagonal := pre_facts) := fun m g _ => frame_reference m g trivial

end Cert.Proof

end
-- ==== Proof.lean ====
module

public import proofs.«01_k».proof.Proof.Algebraic

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, pre_facts, frame_kernel, frame_kernelIdeal,
    frame_kernelIdeal_pre, frame_reference, frame_reference_pre, trivial, algebraic⟩

end Cert.Proof

end
